-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attention [hPre_finite_attention : Cert.Pre_finite_attention.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_KPrep (m : (ℓ : Loc Cert.KPrep.nD Cert.KPrep.τ Cert.KPrep.sig) → Buf (Elt Bits) ℓ) : Prop :=
  True

def Pre_KPrepIdeal (m : (ℓ : Loc Cert.KPrepIdeal.nD Cert.KPrepIdeal.τ Cert.KPrepIdeal.sig) → Buf (Elt Ideal) ℓ) : Prop :=
  True

def Pre_KPrepRefIdeal (m : (ℓ : Loc Cert.KPrepRefIdeal.nD Cert.KPrepRefIdeal.τ Cert.KPrepRefIdeal.sig) → Buf (Elt Ideal) ℓ) : Prop :=
  True

def Pre_AdaLn (m : (ℓ : Loc Cert.AdaLn.nD Cert.AdaLn.τ Cert.AdaLn.sig) → Buf (Elt Bits) ℓ) : Prop :=
  True

def Pre_AdaLnIdeal (m : (ℓ : Loc Cert.AdaLnIdeal.nD Cert.AdaLnIdeal.τ Cert.AdaLnIdeal.sig) → Buf (Elt Ideal) ℓ) : Prop :=
  True

def Pre_AdaLnRefIdeal (m : (ℓ : Loc Cert.AdaLnRefIdeal.nD Cert.AdaLnRefIdeal.τ Cert.AdaLnRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attention [hAttnRefIdeal : Cert.AttnRefIdeal.Facts] [hPre_finite_attention : Cert.Pre_finite_attention.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attention m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_KPrep [hKPrep : Cert.KPrep.Facts] : Prop :=
  ∀ (m : (ℓ : Loc Cert.KPrep.nD Cert.KPrep.τ Cert.KPrep.sig) → Buf (Elt Bits) ℓ) (g : Dev Cert.KPrep.nD → PrngReg), Pre_KPrep m →
    θ_run (Cert.KPrep.defs (F := Bits)) (onTc (τ := Cert.KPrep.τ) (Cert.KPrep.main (F := Bits))) ⟨m, fun _ => 0, g⟩ (fun r => (∀ c : Dev Cert.KPrep.nD,
      r.2.mem ((c.tc : Thread Cert.KPrep.nD Cert.KPrep.τ).loc Cert.KPrep.main_arg0) = m ((c.tc : Thread Cert.KPrep.nD Cert.KPrep.τ).loc Cert.KPrep.main_arg0)
      ∧ r.2.mem ((c.tc : Thread Cert.KPrep.nD Cert.KPrep.τ).loc Cert.KPrep.main_arg1) = m ((c.tc : Thread Cert.KPrep.nD Cert.KPrep.τ).loc Cert.KPrep.main_arg1)
      ∧ r.2.mem ((c.tc : Thread Cert.KPrep.nD Cert.KPrep.τ).loc Cert.KPrep.main_arg2) = m ((c.tc : Thread Cert.KPrep.nD Cert.KPrep.τ).loc Cert.KPrep.main_arg2)
      ∧ r.2.mem ((c.tc : Thread Cert.KPrep.nD Cert.KPrep.τ).loc Cert.KPrep.main_arg3) = m ((c.tc : Thread Cert.KPrep.nD Cert.KPrep.τ).loc Cert.KPrep.main_arg3))
      ∧ r.2.sem = fun _ => 0)

def quiescent_KPrepIdeal [hKPrepIdeal : Cert.KPrepIdeal.Facts] : Prop :=
  ∀ (m : (ℓ : Loc Cert.KPrepIdeal.nD Cert.KPrepIdeal.τ Cert.KPrepIdeal.sig) → Buf (Elt Ideal) ℓ) (g : Dev Cert.KPrepIdeal.nD → PrngReg), Pre_KPrepIdeal m →
    θ_run (Cert.KPrepIdeal.defs (F := Ideal)) (onTc (τ := Cert.KPrepIdeal.τ) (Cert.KPrepIdeal.main (F := Ideal))) ⟨m, fun _ => 0, g⟩ (fun r => (∀ c : Dev Cert.KPrepIdeal.nD,
      r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
      ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
      ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
      ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3))
      ∧ r.2.sem = fun _ => 0)

def quiescent_KPrepRefIdeal [hKPrepRefIdeal : Cert.KPrepRefIdeal.Facts] : Prop :=
  ∀ (m : (ℓ : Loc Cert.KPrepRefIdeal.nD Cert.KPrepRefIdeal.τ Cert.KPrepRefIdeal.sig) → Buf (Elt Ideal) ℓ) (g : Dev Cert.KPrepRefIdeal.nD → PrngReg), Pre_KPrepRefIdeal m →
    θ_run (Cert.KPrepRefIdeal.defs (F := Ideal)) (onTc (τ := Cert.KPrepRefIdeal.τ) (Cert.KPrepRefIdeal.main (F := Ideal))) ⟨m, fun _ => 0, g⟩ (fun r => (∀ c : Dev Cert.KPrepRefIdeal.nD,
      r.2.mem ((c.tc : Thread Cert.KPrepRefIdeal.nD Cert.KPrepRefIdeal.τ).loc Cert.KPrepRefIdeal.main_arg0) = m ((c.tc : Thread Cert.KPrepRefIdeal.nD Cert.KPrepRefIdeal.τ).loc Cert.KPrepRefIdeal.main_arg0)
      ∧ r.2.mem ((c.tc : Thread Cert.KPrepRefIdeal.nD Cert.KPrepRefIdeal.τ).loc Cert.KPrepRefIdeal.main_arg1) = m ((c.tc : Thread Cert.KPrepRefIdeal.nD Cert.KPrepRefIdeal.τ).loc Cert.KPrepRefIdeal.main_arg1)
      ∧ r.2.mem ((c.tc : Thread Cert.KPrepRefIdeal.nD Cert.KPrepRefIdeal.τ).loc Cert.KPrepRefIdeal.main_arg2) = m ((c.tc : Thread Cert.KPrepRefIdeal.nD Cert.KPrepRefIdeal.τ).loc Cert.KPrepRefIdeal.main_arg2)
      ∧ r.2.mem ((c.tc : Thread Cert.KPrepRefIdeal.nD Cert.KPrepRefIdeal.τ).loc Cert.KPrepRefIdeal.main_arg3) = m ((c.tc : Thread Cert.KPrepRefIdeal.nD Cert.KPrepRefIdeal.τ).loc Cert.KPrepRefIdeal.main_arg3))
      ∧ r.2.sem = fun _ => 0)

def quiescent_AdaLn [hAdaLn : Cert.AdaLn.Facts] : Prop :=
  ∀ (m : (ℓ : Loc Cert.AdaLn.nD Cert.AdaLn.τ Cert.AdaLn.sig) → Buf (Elt Bits) ℓ) (g : Dev Cert.AdaLn.nD → PrngReg), Pre_AdaLn m →
    θ_run (Cert.AdaLn.defs (F := Bits)) (onTc (τ := Cert.AdaLn.τ) (Cert.AdaLn.main (F := Bits))) ⟨m, fun _ => 0, g⟩ (fun r => (∀ c : Dev Cert.AdaLn.nD,
      r.2.mem ((c.tc : Thread Cert.AdaLn.nD Cert.AdaLn.τ).loc Cert.AdaLn.main_arg0) = m ((c.tc : Thread Cert.AdaLn.nD Cert.AdaLn.τ).loc Cert.AdaLn.main_arg0)
      ∧ r.2.mem ((c.tc : Thread Cert.AdaLn.nD Cert.AdaLn.τ).loc Cert.AdaLn.main_arg1) = m ((c.tc : Thread Cert.AdaLn.nD Cert.AdaLn.τ).loc Cert.AdaLn.main_arg1)
      ∧ r.2.mem ((c.tc : Thread Cert.AdaLn.nD Cert.AdaLn.τ).loc Cert.AdaLn.main_arg2) = m ((c.tc : Thread Cert.AdaLn.nD Cert.AdaLn.τ).loc Cert.AdaLn.main_arg2)
      ∧ r.2.mem ((c.tc : Thread Cert.AdaLn.nD Cert.AdaLn.τ).loc Cert.AdaLn.main_arg3) = m ((c.tc : Thread Cert.AdaLn.nD Cert.AdaLn.τ).loc Cert.AdaLn.main_arg3))
      ∧ r.2.sem = fun _ => 0)

def quiescent_AdaLnIdeal [hAdaLnIdeal : Cert.AdaLnIdeal.Facts] : Prop :=
  ∀ (m : (ℓ : Loc Cert.AdaLnIdeal.nD Cert.AdaLnIdeal.τ Cert.AdaLnIdeal.sig) → Buf (Elt Ideal) ℓ) (g : Dev Cert.AdaLnIdeal.nD → PrngReg), Pre_AdaLnIdeal m →
    θ_run (Cert.AdaLnIdeal.defs (F := Ideal)) (onTc (τ := Cert.AdaLnIdeal.τ) (Cert.AdaLnIdeal.main (F := Ideal))) ⟨m, fun _ => 0, g⟩ (fun r => (∀ c : Dev Cert.AdaLnIdeal.nD,
      r.2.mem ((c.tc : Thread Cert.AdaLnIdeal.nD Cert.AdaLnIdeal.τ).loc Cert.AdaLnIdeal.main_arg0) = m ((c.tc : Thread Cert.AdaLnIdeal.nD Cert.AdaLnIdeal.τ).loc Cert.AdaLnIdeal.main_arg0)
      ∧ r.2.mem ((c.tc : Thread Cert.AdaLnIdeal.nD Cert.AdaLnIdeal.τ).loc Cert.AdaLnIdeal.main_arg1) = m ((c.tc : Thread Cert.AdaLnIdeal.nD Cert.AdaLnIdeal.τ).loc Cert.AdaLnIdeal.main_arg1)
      ∧ r.2.mem ((c.tc : Thread Cert.AdaLnIdeal.nD Cert.AdaLnIdeal.τ).loc Cert.AdaLnIdeal.main_arg2) = m ((c.tc : Thread Cert.AdaLnIdeal.nD Cert.AdaLnIdeal.τ).loc Cert.AdaLnIdeal.main_arg2)
      ∧ r.2.mem ((c.tc : Thread Cert.AdaLnIdeal.nD Cert.AdaLnIdeal.τ).loc Cert.AdaLnIdeal.main_arg3) = m ((c.tc : Thread Cert.AdaLnIdeal.nD Cert.AdaLnIdeal.τ).loc Cert.AdaLnIdeal.main_arg3))
      ∧ r.2.sem = fun _ => 0)

def quiescent_AdaLnRefIdeal [hAdaLnRefIdeal : Cert.AdaLnRefIdeal.Facts] : Prop :=
  ∀ (m : (ℓ : Loc Cert.AdaLnRefIdeal.nD Cert.AdaLnRefIdeal.τ Cert.AdaLnRefIdeal.sig) → Buf (Elt Ideal) ℓ) (g : Dev Cert.AdaLnRefIdeal.nD → PrngReg), Pre_AdaLnRefIdeal m →
    θ_run (Cert.AdaLnRefIdeal.defs (F := Ideal)) (onTc (τ := Cert.AdaLnRefIdeal.τ) (Cert.AdaLnRefIdeal.main (F := Ideal))) ⟨m, fun _ => 0, g⟩ (fun r => (∀ c : Dev Cert.AdaLnRefIdeal.nD,
      r.2.mem ((c.tc : Thread Cert.AdaLnRefIdeal.nD Cert.AdaLnRefIdeal.τ).loc Cert.AdaLnRefIdeal.main_arg0) = m ((c.tc : Thread Cert.AdaLnRefIdeal.nD Cert.AdaLnRefIdeal.τ).loc Cert.AdaLnRefIdeal.main_arg0)
      ∧ r.2.mem ((c.tc : Thread Cert.AdaLnRefIdeal.nD Cert.AdaLnRefIdeal.τ).loc Cert.AdaLnRefIdeal.main_arg1) = m ((c.tc : Thread Cert.AdaLnRefIdeal.nD Cert.AdaLnRefIdeal.τ).loc Cert.AdaLnRefIdeal.main_arg1)
      ∧ r.2.mem ((c.tc : Thread Cert.AdaLnRefIdeal.nD Cert.AdaLnRefIdeal.τ).loc Cert.AdaLnRefIdeal.main_arg2) = m ((c.tc : Thread Cert.AdaLnRefIdeal.nD Cert.AdaLnRefIdeal.τ).loc Cert.AdaLnRefIdeal.main_arg2)
      ∧ r.2.mem ((c.tc : Thread Cert.AdaLnRefIdeal.nD Cert.AdaLnRefIdeal.τ).loc Cert.AdaLnRefIdeal.main_arg3) = m ((c.tc : Thread Cert.AdaLnRefIdeal.nD Cert.AdaLnRefIdeal.τ).loc Cert.AdaLnRefIdeal.main_arg3))
      ∧ r.2.sem = fun _ => 0)

def preserves_Attn_AttnIdeal : Prop :=
  IdealRules.named_const.Statement Cert.AttnIdeal.κ "scale_log2e" .f32 0x3E0293EE#32 (((Real.log 2)⁻¹ * (Real.sqrt 128)⁻¹ : ℝ) : EReal)

def algebraic_AttnIdeal_AttnRefIdeal_pre_finite_attention [hAttnIdeal : Cert.AttnIdeal.Facts] [hAttnRefIdeal : Cert.AttnRefIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attention m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v57) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v32) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_InProj_InProjIdeal : Prop :=
  True

def algebraic_InProjIdeal_InProjRefIdeal_on_gate_lanes [hInProjIdeal : Cert.InProjIdeal.Facts] [hInProjRefIdeal : Cert.InProjRefIdeal.Facts] [hOn_gate_lanes : Cert.On_gate_lanes.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          (∀ i : (⟨3, ![4, 4096, 5632]⟩ : Shape).Idx, (Cert.On_gate_lanes.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).1 i = 1#1 → r.2.mem ((c.tc : Thread Cert.InProjIdeal.nD Cert.InProjIdeal.τ).loc Cert.InProjIdeal.main_v11_0) i = v0 c i)
          ∧ (∀ i : (⟨3, ![4, 4096, 128]⟩ : Shape).Idx, (Cert.On_gate_lanes.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2 i = 1#1 → r.2.mem ((c.tc : Thread Cert.InProjIdeal.nD Cert.InProjIdeal.τ).loc Cert.InProjIdeal.main_v11_1) i = v1 c i)
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          (∀ i : (⟨3, ![4, 4096, 5632]⟩ : Shape).Idx, (Cert.On_gate_lanes.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).1 i = 1#1 → r.2.mem ((c.tc : Thread Cert.InProjRefIdeal.nD Cert.InProjRefIdeal.τ).loc Cert.InProjRefIdeal.main_v46) i = v0 c i)
          ∧ (∀ i : (⟨3, ![4, 4096, 128]⟩ : Shape).Idx, (Cert.On_gate_lanes.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))).2 i = 1#1 → r.2.mem ((c.tc : Thread Cert.InProjRefIdeal.nD Cert.InProjRefIdeal.τ).loc Cert.InProjRefIdeal.main_v47) i = v1 c i)
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_KPrep_KPrepIdeal : Prop :=
  True

def algebraic_KPrepIdeal_KPrepRefIdeal [hKPrepIdeal : Cert.KPrepIdeal.Facts] [hKPrepRefIdeal : Cert.KPrepRefIdeal.Facts] : Prop :=
  ∀ (m : (ℓ : Loc Cert.KPrepIdeal.nD Cert.KPrepIdeal.τ Cert.KPrepIdeal.sig) → Buf (Elt Ideal) ℓ) (g : Dev Cert.KPrepIdeal.nD → PrngReg)
    (m' : (ℓ : Loc Cert.KPrepRefIdeal.nD Cert.KPrepRefIdeal.τ Cert.KPrepRefIdeal.sig) → Buf (Elt Ideal) ℓ) (g' : Dev Cert.KPrepRefIdeal.nD → PrngReg), Pre_KPrepIdeal m →
    (∀ c : Dev Cert.KPrepIdeal.nD,
      m' ((c.tc : Thread Cert.KPrepRefIdeal.nD Cert.KPrepRefIdeal.τ).loc Cert.KPrepRefIdeal.main_arg0) = m ((c.tc : Thread Cert.KPrepIdeal.nD Cert.KPrepIdeal.τ).loc Cert.KPrepIdeal.main_arg0)
      ∧ m' ((c.tc : Thread Cert.KPrepRefIdeal.nD Cert.KPrepRefIdeal.τ).loc Cert.KPrepRefIdeal.main_arg1) = m ((c.tc : Thread Cert.KPrepIdeal.nD Cert.KPrepIdeal.τ).loc Cert.KPrepIdeal.main_arg1)
      ∧ m' ((c.tc : Thread Cert.KPrepRefIdeal.nD Cert.KPrepRefIdeal.τ).loc Cert.KPrepRefIdeal.main_arg2) = m ((c.tc : Thread Cert.KPrepIdeal.nD Cert.KPrepIdeal.τ).loc Cert.KPrepIdeal.main_arg2)
      ∧ m' ((c.tc : Thread Cert.KPrepRefIdeal.nD Cert.KPrepRefIdeal.τ).loc Cert.KPrepRefIdeal.main_arg3) = m ((c.tc : Thread Cert.KPrepIdeal.nD Cert.KPrepIdeal.τ).loc Cert.KPrepIdeal.main_arg3)) →
    ∃ (v0 : (c : Dev Cert.KPrepIdeal.nD) → Buf (Elt Ideal) ((c.tc : Thread Cert.KPrepIdeal.nD Cert.KPrepIdeal.τ).loc Cert.KPrepIdeal.main_v0)),
      θ_run (Cert.KPrepIdeal.defs (F := Ideal)) (onTc (τ := Cert.KPrepIdeal.τ) (Cert.KPrepIdeal.main (F := Ideal))) ⟨m, fun _ => 0, g⟩ (fun r => ∀ c : Dev Cert.KPrepIdeal.nD,
          r.2.mem ((c.tc : Thread Cert.KPrepIdeal.nD Cert.KPrepIdeal.τ).loc Cert.KPrepIdeal.main_v0) = v0 c
          ∧ r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
          ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
          ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
          ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3))
      ∧ θ_run (Cert.KPrepRefIdeal.defs (F := Ideal)) (onTc (τ := Cert.KPrepRefIdeal.τ) (Cert.KPrepRefIdeal.main (F := Ideal))) ⟨m', fun _ => 0, g'⟩ (fun r => ∀ c : Dev Cert.KPrepRefIdeal.nD,
          r.2.mem ((c.tc : Thread Cert.KPrepRefIdeal.nD Cert.KPrepRefIdeal.τ).loc Cert.KPrepRefIdeal.main_v34) = v0 c
          ∧ r.2.mem ((c.tc : Thread Cert.KPrepRefIdeal.nD Cert.KPrepRefIdeal.τ).loc Cert.KPrepRefIdeal.main_arg0) = m' ((c.tc : Thread Cert.KPrepRefIdeal.nD Cert.KPrepRefIdeal.τ).loc Cert.KPrepRefIdeal.main_arg0)
          ∧ r.2.mem ((c.tc : Thread Cert.KPrepRefIdeal.nD Cert.KPrepRefIdeal.τ).loc Cert.KPrepRefIdeal.main_arg1) = m' ((c.tc : Thread Cert.KPrepRefIdeal.nD Cert.KPrepRefIdeal.τ).loc Cert.KPrepRefIdeal.main_arg1)
          ∧ r.2.mem ((c.tc : Thread Cert.KPrepRefIdeal.nD Cert.KPrepRefIdeal.τ).loc Cert.KPrepRefIdeal.main_arg2) = m' ((c.tc : Thread Cert.KPrepRefIdeal.nD Cert.KPrepRefIdeal.τ).loc Cert.KPrepRefIdeal.main_arg2)
          ∧ r.2.mem ((c.tc : Thread Cert.KPrepRefIdeal.nD Cert.KPrepRefIdeal.τ).loc Cert.KPrepRefIdeal.main_arg3) = m' ((c.tc : Thread Cert.KPrepRefIdeal.nD Cert.KPrepRefIdeal.τ).loc Cert.KPrepRefIdeal.main_arg3))

def preserves_AdaLn_AdaLnIdeal : Prop :=
  True

def algebraic_AdaLnIdeal_AdaLnRefIdeal [hAdaLnIdeal : Cert.AdaLnIdeal.Facts] [hAdaLnRefIdeal : Cert.AdaLnRefIdeal.Facts] : Prop :=
  ∀ (m : (ℓ : Loc Cert.AdaLnIdeal.nD Cert.AdaLnIdeal.τ Cert.AdaLnIdeal.sig) → Buf (Elt Ideal) ℓ) (g : Dev Cert.AdaLnIdeal.nD → PrngReg)
    (m' : (ℓ : Loc Cert.AdaLnRefIdeal.nD Cert.AdaLnRefIdeal.τ Cert.AdaLnRefIdeal.sig) → Buf (Elt Ideal) ℓ) (g' : Dev Cert.AdaLnRefIdeal.nD → PrngReg), Pre_AdaLnIdeal m →
    (∀ c : Dev Cert.AdaLnIdeal.nD,
      m' ((c.tc : Thread Cert.AdaLnRefIdeal.nD Cert.AdaLnRefIdeal.τ).loc Cert.AdaLnRefIdeal.main_arg0) = m ((c.tc : Thread Cert.AdaLnIdeal.nD Cert.AdaLnIdeal.τ).loc Cert.AdaLnIdeal.main_arg0)
      ∧ m' ((c.tc : Thread Cert.AdaLnRefIdeal.nD Cert.AdaLnRefIdeal.τ).loc Cert.AdaLnRefIdeal.main_arg1) = m ((c.tc : Thread Cert.AdaLnIdeal.nD Cert.AdaLnIdeal.τ).loc Cert.AdaLnIdeal.main_arg1)
      ∧ m' ((c.tc : Thread Cert.AdaLnRefIdeal.nD Cert.AdaLnRefIdeal.τ).loc Cert.AdaLnRefIdeal.main_arg2) = m ((c.tc : Thread Cert.AdaLnIdeal.nD Cert.AdaLnIdeal.τ).loc Cert.AdaLnIdeal.main_arg2)
      ∧ m' ((c.tc : Thread Cert.AdaLnRefIdeal.nD Cert.AdaLnRefIdeal.τ).loc Cert.AdaLnRefIdeal.main_arg3) = m ((c.tc : Thread Cert.AdaLnIdeal.nD Cert.AdaLnIdeal.τ).loc Cert.AdaLnIdeal.main_arg3)) →
    ∃ (v0 : (c : Dev Cert.AdaLnIdeal.nD) → Buf (Elt Ideal) ((c.tc : Thread Cert.AdaLnIdeal.nD Cert.AdaLnIdeal.τ).loc Cert.AdaLnIdeal.main_v2)),
      θ_run (Cert.AdaLnIdeal.defs (F := Ideal)) (onTc (τ := Cert.AdaLnIdeal.τ) (Cert.AdaLnIdeal.main (F := Ideal))) ⟨m, fun _ => 0, g⟩ (fun r => ∀ c : Dev Cert.AdaLnIdeal.nD,
          r.2.mem ((c.tc : Thread Cert.AdaLnIdeal.nD Cert.AdaLnIdeal.τ).loc Cert.AdaLnIdeal.main_v2) = v0 c
          ∧ r.2.mem ((c.tc : Thread Cert.AdaLnIdeal.nD Cert.AdaLnIdeal.τ).loc Cert.AdaLnIdeal.main_arg0) = m ((c.tc : Thread Cert.AdaLnIdeal.nD Cert.AdaLnIdeal.τ).loc Cert.AdaLnIdeal.main_arg0)
          ∧ r.2.mem ((c.tc : Thread Cert.AdaLnIdeal.nD Cert.AdaLnIdeal.τ).loc Cert.AdaLnIdeal.main_arg1) = m ((c.tc : Thread Cert.AdaLnIdeal.nD Cert.AdaLnIdeal.τ).loc Cert.AdaLnIdeal.main_arg1)
          ∧ r.2.mem ((c.tc : Thread Cert.AdaLnIdeal.nD Cert.AdaLnIdeal.τ).loc Cert.AdaLnIdeal.main_arg2) = m ((c.tc : Thread Cert.AdaLnIdeal.nD Cert.AdaLnIdeal.τ).loc Cert.AdaLnIdeal.main_arg2)
          ∧ r.2.mem ((c.tc : Thread Cert.AdaLnIdeal.nD Cert.AdaLnIdeal.τ).loc Cert.AdaLnIdeal.main_arg3) = m ((c.tc : Thread Cert.AdaLnIdeal.nD Cert.AdaLnIdeal.τ).loc Cert.AdaLnIdeal.main_arg3))
      ∧ θ_run (Cert.AdaLnRefIdeal.defs (F := Ideal)) (onTc (τ := Cert.AdaLnRefIdeal.τ) (Cert.AdaLnRefIdeal.main (F := Ideal))) ⟨m', fun _ => 0, g'⟩ (fun r => ∀ c : Dev Cert.AdaLnRefIdeal.nD,
          r.2.mem ((c.tc : Thread Cert.AdaLnRefIdeal.nD Cert.AdaLnRefIdeal.τ).loc Cert.AdaLnRefIdeal.main_v12) = v0 c
          ∧ r.2.mem ((c.tc : Thread Cert.AdaLnRefIdeal.nD Cert.AdaLnRefIdeal.τ).loc Cert.AdaLnRefIdeal.main_arg0) = m' ((c.tc : Thread Cert.AdaLnRefIdeal.nD Cert.AdaLnRefIdeal.τ).loc Cert.AdaLnRefIdeal.main_arg0)
          ∧ r.2.mem ((c.tc : Thread Cert.AdaLnRefIdeal.nD Cert.AdaLnRefIdeal.τ).loc Cert.AdaLnRefIdeal.main_arg1) = m' ((c.tc : Thread Cert.AdaLnRefIdeal.nD Cert.AdaLnRefIdeal.τ).loc Cert.AdaLnRefIdeal.main_arg1)
          ∧ r.2.mem ((c.tc : Thread Cert.AdaLnRefIdeal.nD Cert.AdaLnRefIdeal.τ).loc Cert.AdaLnRefIdeal.main_arg2) = m' ((c.tc : Thread Cert.AdaLnRefIdeal.nD Cert.AdaLnRefIdeal.τ).loc Cert.AdaLnRefIdeal.main_arg2)
          ∧ r.2.mem ((c.tc : Thread Cert.AdaLnRefIdeal.nD Cert.AdaLnRefIdeal.τ).loc Cert.AdaLnRefIdeal.main_arg3) = m' ((c.tc : Thread Cert.AdaLnRefIdeal.nD Cert.AdaLnRefIdeal.τ).loc Cert.AdaLnRefIdeal.main_arg3))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hKPrep : Cert.KPrep.Facts) (hKPrepIdeal : Cert.KPrepIdeal.Facts) (hKPrepRefIdeal : Cert.KPrepRefIdeal.Facts) (hAdaLn : Cert.AdaLn.Facts) (hAdaLnIdeal : Cert.AdaLnIdeal.Facts) (hAdaLnRefIdeal : Cert.AdaLnRefIdeal.Facts) (hPre_finite_attention : Cert.Pre_finite_attention.Facts) (hOn_gate_lanes : Cert.On_gate_lanes.Facts),
    quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnRefIdeal (hAttnRefIdeal := hAttnRefIdeal)
    ∧ quiescent_AttnRefIdeal_pre_finite_attention (hAttnRefIdeal := hAttnRefIdeal) (hPre_finite_attention := hPre_finite_attention)
    ∧ quiescent_Mlp (hMlp := hMlp)
    ∧ quiescent_MlpIdeal (hMlpIdeal := hMlpIdeal)
    ∧ quiescent_MlpRefIdeal (hMlpRefIdeal := hMlpRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_KPrep (hKPrep := hKPrep)
    ∧ quiescent_KPrepIdeal (hKPrepIdeal := hKPrepIdeal)
    ∧ quiescent_KPrepRefIdeal (hKPrepRefIdeal := hKPrepRefIdeal)
    ∧ quiescent_AdaLn (hAdaLn := hAdaLn)
    ∧ quiescent_AdaLnIdeal (hAdaLnIdeal := hAdaLnIdeal)
    ∧ quiescent_AdaLnRefIdeal (hAdaLnRefIdeal := hAdaLnRefIdeal)
    ∧ preserves_Attn_AttnIdeal
    ∧ algebraic_AttnIdeal_AttnRefIdeal_pre_finite_attention (hAttnIdeal := hAttnIdeal) (hAttnRefIdeal := hAttnRefIdeal) (hPre_finite_attention := hPre_finite_attention)
    ∧ preserves_Mlp_MlpIdeal
    ∧ algebraic_MlpIdeal_MlpRefIdeal (hMlpIdeal := hMlpIdeal) (hMlpRefIdeal := hMlpRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal_on_gate_lanes (hInProjIdeal := hInProjIdeal) (hInProjRefIdeal := hInProjRefIdeal) (hOn_gate_lanes := hOn_gate_lanes)
    ∧ preserves_KPrep_KPrepIdeal
    ∧ algebraic_KPrepIdeal_KPrepRefIdeal (hKPrepIdeal := hKPrepIdeal) (hKPrepRefIdeal := hKPrepRefIdeal)
    ∧ preserves_AdaLn_AdaLnIdeal
    ∧ algebraic_AdaLnIdeal_AdaLnRefIdeal (hAdaLnIdeal := hAdaLnIdeal) (hAdaLnRefIdeal := hAdaLnRefIdeal)
-- ==== On_gate_lanes.lean ====
abbrev S4x4096x2048 : Shape := ⟨3, ![4, 4096, 2048]⟩
abbrev S1x2048 : Shape := ⟨2, ![1, 2048]⟩
abbrev S4x1x2048 : Shape := ⟨3, ![4, 1, 2048]⟩
abbrev S2x2048x5664 : Shape := ⟨3, ![2, 2048, 5664]⟩
abbrev S2x8 : Shape := ⟨2, ![2, 8]⟩
abbrev S4x4096x128 : Shape := ⟨3, ![4, 4096, 128]⟩
abbrev S_ : Shape := ⟨0, ![]⟩
abbrev S4x4096x5632 : Shape := ⟨3, ![4, 4096, 5632]⟩

class Facts : Prop where
  bcast_S_S4x4096x5632 : S_.BroadcastsInDim S4x4096x5632 (![] : Fin 0 → Fin S4x4096x5632.rank)
  bcast_S_S4x4096x128 : S_.BroadcastsInDim S4x4096x128 (![] : Fin 0 → Fin S4x4096x128.rank)

variable [Facts]

def fn {F : FTy → Type} [FloatOps F] (main_arg0 : FVec F S4x4096x2048 .f32) (main_arg1 : FVec F S1x2048 .f32) (main_arg2 : FVec F S4x1x2048 .f32) (main_arg3 : FVec F S4x1x2048 .f32) (main_arg4 : FVec F S2x2048x5664 .f32) (main_arg5 : FVec F S2x8 .f32) (main_arg6 : FVec F S2x8 .f32) : IVec S4x4096x5632 1 × IVec S4x4096x128 1 :=
  let main_v0 : IVec S4x4096x128 32 := iotaInDim S4x4096x128 32 2
  let main_c : IVec S_ 1 := constantI S_ 1 1#1
  let main_v1 : IVec S4x4096x5632 1 := broadcastInDim S4x4096x5632 ![] bcast_S_S4x4096x5632 main_c
  let main_c_0 : IVec S_ 32 := constantI S_ 32 32#32
  let main_v2 : IVec S4x4096x128 32 := broadcastInDim S4x4096x128 ![] bcast_S_S4x4096x128 main_c_0
  let main_v3 : IVec S4x4096x128 1 := cmpi .slt main_v0 main_v2
  (main_v1, main_v3)
-- ==== Pre_finite_attention.lean ====
abbrev S4x4096x5632 : Shape := ⟨3, ![4, 4096, 5632]⟩
abbrev S1x128 : Shape := ⟨2, ![1, 128]⟩
abbrev S4096x128 : Shape := ⟨2, ![4096, 128]⟩
abbrev S4x4096x256 : Shape := ⟨3, ![4, 4096, 256]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bitsLt_bf16_f32 : FTy.bits .bf16 < FTy.bits .f32
  bcast_S_S4x4096x256 : S_.BroadcastsInDim S4x4096x256 (![] : Fin 0 → Fin S4x4096x256.rank)
  reducesTo_S4x4096x256_S_d0_1_2 : S4x4096x256.ReducesTo [0, 1, 2] S_

variable [Facts]

def fn_part1 {F : FTy → Type} [FloatOps F] (main_v13 : IVec S_ 1) (main_v15 : FVec F S4x4096x256 .f32) (main_v16 : FVec F S4x4096x256 .f32) : IVec S_ 1 :=
  let main_v17 : IVec S4x4096x256 1 := cmpf .olt main_v15 main_v16
  let main_c_5 : IVec S_ 1 := constantI S_ 1 1#1
  let main_v18 : IVec S_ 1 := (fun x v => Host.reduce IntOp.andi x v reducesTo_S4x4096x256_S_d0_1_2 h_S_) main_v17 main_c_5
  let main_v19 : IVec S_ 1 := andi main_v13 main_v18
  main_v19

def fn {F : FTy → Type} [FloatOps F] (main_arg0 : FVec F S4x4096x5632 .bf16) (main_arg1 : FVec F S1x128 .f32) (main_arg2 : FVec F S4096x128 .f32) (main_arg3 : FVec F S4096x128 .f32) (main_arg4 : FVec F S4x4096x256 .bf16) : IVec S_ 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg3
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4x4096x256 .f32 := (extf .f32 · bitsLt_bf16_f32) main_arg4
  let main_v15 : FVec F S4x4096x256 .f32 := Host.absf main_v14
  let main_cst_4 : FVec F S_ .f32 := constant S_ .f32 0x7F800000#32
  let main_v16 : FVec F S4x4096x256 .f32 := broadcastInDim S4x4096x256 ![] bcast_S_S4x4096x256 main_cst_4
  fn_part1 (F := F) main_v13 main_v15 main_v16
-- ==== Attn.lean ====
abbrev S4x4096x5632 : Shape := ⟨3, ![4, 4096, 5632]⟩
abbrev S1x128 : Shape := ⟨2, ![1, 128]⟩
abbrev S4096x128 : Shape := ⟨2, ![4096, 128]⟩
abbrev S4x4096x256 : Shape := ⟨3, ![4, 4096, 256]⟩
abbrev S4x4096x1024 : Shape := ⟨3, ![4, 4096, 1024]⟩
abbrev S1x128x1024 : Shape := ⟨3, ![1, 128, 1024]⟩
abbrev S128x128 : Shape := ⟨2, ![128, 128]⟩
abbrev S1x4096x256 : Shape := ⟨3, ![1, 4096, 256]⟩
abbrev S1x128x128 : Shape := ⟨3, ![1, 128, 128]⟩
abbrev S128 : Shape := ⟨1, ![128]⟩
abbrev S128x1 : Shape := ⟨2, ![128, 1]⟩
abbrev S512x128 : Shape := ⟨2, ![512, 128]⟩
abbrev S1x4096x128 : Shape := ⟨3, ![1, 4096, 128]⟩
abbrev S4096x256 : Shape := ⟨2, ![4096, 256]⟩
abbrev S512x4096 : Shape := ⟨2, ![512, 4096]⟩
abbrev S512 : Shape := ⟨1, ![512]⟩
abbrev S512x1 : Shape := ⟨2, ![512, 1]⟩
abbrev S512x256 : Shape := ⟨2, ![512, 256]⟩

abbrev nBuf : Space → Nat
  | .hbm => 6
  | .vmem => 13
  | .smem => 0
  | _ => 0

abbrev bufTy : (tb : Table) → Fin (tcTables nBuf tb) → BufTy
  | .hbm, ⟨0, _⟩ => ⟨S4x4096x5632, .bf16⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4x4096x256, .bf16⟩
  | .hbm, ⟨5, _⟩ => ⟨S4x4096x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x128x1024, .bf16⟩
  | .local _ .vmem, ⟨12, _⟩ => ⟨S1x128x1024, .bf16⟩
  | _, _ => ⟨S4x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c21_i32 : BitVec 32 := 21#32
  let c0_i32_0 : BitVec 32 := 0#32
  ![arg0.toNat, c0_i32.toNat, c21_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "scale_log2e" => some (((Real.log 2)⁻¹ * (Real.sqrt 128)⁻¹ : ℝ) : EReal)
  | _ => none
-- ==== AttnRefIdeal.lean ====
abbrev S4x4096x5632 : Shape := ⟨3, ![4, 4096, 5632]⟩
abbrev S1x128 : Shape := ⟨2, ![1, 128]⟩
abbrev S4096x128 : Shape := ⟨2, ![4096, 128]⟩
abbrev S4x4096x256 : Shape := ⟨3, ![4, 4096, 256]⟩
abbrev S4x4096x1024 : Shape := ⟨3, ![4, 4096, 1024]⟩
abbrev S4x4096x8x128 : Shape := ⟨4, ![4, 4096, 8, 128]⟩
abbrev S4x4096x2x128 : Shape := ⟨4, ![4, 4096, 2, 128]⟩
abbrev S128 : Shape := ⟨1, ![128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4096x1x128 : Shape := ⟨3, ![4096, 1, 128]⟩
abbrev S1x4096x1x128 : Shape := ⟨4, ![1, 4096, 1, 128]⟩
abbrev S4x4096x8x32 : Shape := ⟨4, ![4, 4096, 8, 32]⟩
abbrev S4x4096x2x4x128 : Shape := ⟨5, ![4, 4096, 2, 4, 128]⟩
abbrev S4x2x4096x4096x4 : Shape := ⟨5, ![4, 2, 4096, 4096, 4]⟩
abbrev S4x2x4x4096x4096 : Shape := ⟨5, ![4, 2, 4, 4096, 4096]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x5632, .bf16⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4x4096x256, .bf16⟩
  | .hbm, ⟨5, _⟩ => ⟨S4x4096x5632, .f32⟩
  | .hbm, ⟨6, _⟩ => ⟨S4x4096x1024, .f32⟩
  | .hbm, ⟨7, _⟩ => ⟨S4x4096x8x128, .f32⟩
  | .hbm, ⟨8, _⟩ => ⟨S4x4096x256, .f32⟩
  | .hbm, ⟨9, _⟩ => ⟨S4x4096x2x128, .f32⟩
  | .hbm, ⟨10, _⟩ => ⟨S4x4096x256, .f32⟩
  | .hbm, ⟨11, _⟩ => ⟨S4x4096x2x128, .f32⟩
  | .hbm, ⟨12, _⟩ => ⟨S128, .f32⟩
  | .hbm, ⟨13, _⟩ => ⟨S4x4096x8x128, .f32⟩
  | .hbm, ⟨14, _⟩ => ⟨S_, .f32⟩
  | .hbm, ⟨15, _⟩ => ⟨S4x4096x8, .f32⟩
  | .hbm, ⟨16, _⟩ => ⟨S4x4096x8x1, .f32⟩
  | .hbm, ⟨17, _⟩ => ⟨S_, .f32⟩
  | .hbm, ⟨18, _⟩ => ⟨S4x4096x8x1, .f32⟩
  | .hbm, ⟨19, _⟩ => ⟨S4x4096x8x1, .f32⟩
  | .hbm, ⟨20, _⟩ => ⟨S_, .f32⟩
  | .hbm, ⟨21, _⟩ => ⟨S4x4096x8x1, .f32⟩
  | .hbm, ⟨22, _⟩ => ⟨S4x4096x8x1, .f32⟩
  | .hbm, ⟨23, _⟩ => ⟨S4x4096x8x1, .f32⟩
  | .hbm, ⟨24, _⟩ => ⟨S4x4096x8x128, .f32⟩
  | .hbm, ⟨25, _⟩ => ⟨S4x4096x8x128, .f32⟩
  | .hbm, ⟨26, _⟩ => ⟨S1x1x1x128, .f32⟩
  | .hbm, ⟨27, _⟩ => ⟨S4x4096x8x128, .f32⟩
  | .hbm, ⟨28, _⟩ => ⟨S4x4096x8x128, .f32⟩
  | .hbm, ⟨29, _⟩ => ⟨S4096x1x128, .f32⟩
  | .hbm, ⟨30, _⟩ => ⟨S4096x1x128, .f32⟩
  | .hbm, ⟨31, _⟩ => ⟨S1x4096x1x128, .f32⟩
  | .hbm, ⟨32, _⟩ => ⟨S4x4096x8x128, .f32⟩
  | .hbm, ⟨33, _⟩ => ⟨S4x4096x8x128, .f32⟩
  | .hbm, ⟨34, _⟩ => ⟨S4x4096x8x32, .f32⟩
  | .hbm, ⟨35, _⟩ => ⟨S4x4096x8x32, .f32⟩
  | .hbm, ⟨36, _⟩ => ⟨S4x4096x8x32, .f32⟩
  | .hbm, ⟨37, _⟩ => ⟨S4x4096x8x32, .f32⟩
  | .hbm, ⟨38, _⟩ => ⟨S4x4096x8x32, .f32⟩
  | .hbm, ⟨39, _⟩ => ⟨S4x4096x8x32, .f32⟩
  | .hbm, ⟨40, _⟩ => ⟨S4x4096x8x128, .f32⟩
  | .hbm, ⟨41, _⟩ => ⟨S1x4096x1x128, .f32⟩
  | .hbm, ⟨42, _⟩ => ⟨S4x4096x8x128, .f32⟩
  | .hbm, ⟨43, _⟩ => ⟨S4x4096x8x128, .f32⟩
  | .hbm, ⟨44, _⟩ => ⟨S4x4096x8x128, .f32⟩
  | .hbm, ⟨45, _⟩ => ⟨S4x4096x2x4x128, .f32⟩
  | .hbm, ⟨46, _⟩ => ⟨S4x2x4096x4096x4, .f32⟩
  | .hbm, ⟨47, _⟩ => ⟨S4x2x4x4096x4096, .f32⟩
  | .hbm, ⟨48, _⟩ => ⟨S_, .f32⟩
  | .hbm, ⟨49, _⟩ => ⟨S_, .f32⟩
  | .hbm, ⟨50, _⟩ => ⟨S4x2x4x4096x4096, .f32⟩
  | .hbm, ⟨51, _⟩ => ⟨S4x2x4x4096x4096, .f32⟩
  | .hbm, ⟨52, _⟩ => ⟨S_, .f32⟩
  | .hbm, ⟨53, _⟩ => ⟨S4x2x4x4096, .f32⟩
  | .hbm, ⟨54, _⟩ => ⟨S_, .f32⟩
  | .hbm, ⟨55, _⟩ => ⟨S4x2x4x4096, .f32⟩
  | .hbm, ⟨56, _⟩ => ⟨S4x2x4x4096, .f32⟩
  | .hbm, ⟨57, _⟩ => ⟨S4x2x4x4096x1, .f32⟩
  | .hbm, ⟨58, _⟩ => ⟨S4x2x4x4096x4096, .f32⟩
  | .hbm, ⟨59, _⟩ => ⟨S4x2x4x4096x4096, .f32⟩
  | .hbm, ⟨60, _⟩ => ⟨S4x2x4x4096x4096, .f32⟩
  | .hbm, ⟨61, _⟩ => ⟨S_, .f32⟩
  | .hbm, ⟨62, _⟩ => ⟨S4x2x4x4096, .f32⟩
  | .hbm, ⟨63, _⟩ => ⟨S4x2x4x4096x1, .f32⟩
  | .hbm, ⟨64, _⟩ => ⟨S4x2x4x4096x4096, .f32⟩
  | .hbm, ⟨65, _⟩ => ⟨S4x2x4x4096x4096, .f32⟩
  | .hbm, ⟨66, _⟩ => ⟨S4x2x128x4x4096, .f32⟩
  | .hbm, ⟨67, _⟩ => ⟨S4x4096x2x4x128, .f32⟩
  | .hbm, ⟨68, _⟩ => ⟨S4x4096x1024, .f32⟩
  | .hbm, ⟨69, _⟩ => ⟨S4x4096x1024, .bf16⟩
  | _, _ => ⟨S4x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Mlp.lean ====
abbrev S4x4096x2048 : Shape := ⟨3, ![4, 4096, 2048]⟩
abbrev S1x2048 : Shape := ⟨2, ![1, 2048]⟩
abbrev S4x1x2048 : Shape := ⟨3, ![4, 1, 2048]⟩
abbrev S2x2048x8192 : Shape := ⟨3, ![2, 2048, 8192]⟩
abbrev S2x8192x2048 : Shape := ⟨3, ![2, 8192, 2048]⟩
abbrev S1x512x2048 : Shape := ⟨3, ![1, 512, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 8
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S4x1x2048, .f32⟩
  | .hbm, ⟨5, _⟩ => ⟨S2x2048x8192, .bf16⟩
  | .hbm, ⟨6, _⟩ => ⟨S2x8192x2048, .bf16⟩
  | .hbm, ⟨7, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x1024, .bf16⟩
  | .local _ .vmem, ⟨10, _⟩ => ⟨S1x2048x1024, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x512x2048, .f32⟩
  | .local _ .vmem, ⟨14, _⟩ => ⟨S1x512x2048, .f32⟩
  | .local _ .vmem, ⟨15, _⟩ => ⟨S512x2048, .bf16⟩
  | .local _ .vmem, ⟨16, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MlpRefIdeal.lean ====
abbrev S4x4096x2048 : Shape := ⟨3, ![4, 4096, 2048]⟩
abbrev S1x2048 : Shape := ⟨2, ![1, 2048]⟩
abbrev S4x1x2048 : Shape := ⟨3, ![4, 1, 2048]⟩
abbrev S2x2048x8192 : Shape := ⟨3, ![2, 2048, 8192]⟩
abbrev S2x8192x2048 : Shape := ⟨3, ![2, 8192, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x4096x8192 : Shape := ⟨3, ![4, 4096, 8192]⟩
abbrev S1x8192x2048 : Shape := ⟨3, ![1, 8192, 2048]⟩
abbrev S8192x2048 : Shape := ⟨2, ![8192, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S4x1x2048, .f32⟩
  | .hbm, ⟨5, _⟩ => ⟨S2x2048x8192, .bf16⟩
  | .hbm, ⟨6, _⟩ => ⟨S2x8192x2048, .bf16⟩
  | .hbm, ⟨7, _⟩ => ⟨S2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S1x2048x8192, .bf16⟩
  | .hbm, ⟨32, _⟩ => ⟨S2048x8192, .bf16⟩
  | .hbm, ⟨33, _⟩ => ⟨S2048x8192, .f32⟩
  | .hbm, ⟨34, _⟩ => ⟨S4x4096x8192, .f32⟩
  | .hbm, ⟨35, _⟩ => ⟨S_, .f32⟩
  | .hbm, ⟨36, _⟩ => ⟨S4x4096x8192, .f32⟩
  | .hbm, ⟨37, _⟩ => ⟨S4x4096x8192, .f32⟩
  | .hbm, ⟨38, _⟩ => ⟨S4x4096x8192, .f32⟩
  | .hbm, ⟨39, _⟩ => ⟨S1x8192x2048, .bf16⟩
  | .hbm, ⟨40, _⟩ => ⟨S8192x2048, .bf16⟩
  | .hbm, ⟨41, _⟩ => ⟨S8192x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== OutProj.lean ====
abbrev S4x4096x1024 : Shape := ⟨3, ![4, 4096, 1024]⟩
abbrev S2x2048x2048 : Shape := ⟨3, ![2, 2048, 2048]⟩
abbrev S4x4096x2048 : Shape := ⟨3, ![4, 4096, 2048]⟩
abbrev S4x1x2048 : Shape := ⟨3, ![4, 1, 2048]⟩
abbrev S1x512x1024 : Shape := ⟨3, ![1, 512, 1024]⟩
abbrev S1x1024x2048 : Shape := ⟨3, ![1, 1024, 2048]⟩
abbrev S1x512x2048 : Shape := ⟨3, ![1, 512, 2048]⟩
abbrev S1x1x2048 : Shape := ⟨3, ![1, 1, 2048]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S2x2048x2048, .bf16⟩
  | .hbm, ⟨3, _⟩ => ⟨S4x4096x2048, .f32⟩
  | .hbm, ⟨4, _⟩ => ⟨S4x1x2048, .f32⟩
  | .hbm, ⟨5, _⟩ => ⟨S4x4096x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x512x2048, .f32⟩
  | .local _ .vmem, ⟨11, _⟩ => ⟨S1x512x2048, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjRefIdeal.lean ====
abbrev S4x4096x1024 : Shape := ⟨3, ![4, 4096, 1024]⟩
abbrev S2x2048x2048 : Shape := ⟨3, ![2, 2048, 2048]⟩
abbrev S4x4096x2048 : Shape := ⟨3, ![4, 4096, 2048]⟩
abbrev S4x1x2048 : Shape := ⟨3, ![4, 1, 2048]⟩
abbrev S1x2048x2048 : Shape := ⟨3, ![1, 2048, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S2x2048x2048, .bf16⟩
  | .hbm, ⟨3, _⟩ => ⟨S4x4096x2048, .f32⟩
  | .hbm, ⟨4, _⟩ => ⟨S4x1x2048, .f32⟩
  | .hbm, ⟨5, _⟩ => ⟨S4x4096x2048, .bf16⟩
  | .hbm, ⟨6, _⟩ => ⟨S4x4096x2048, .f32⟩
  | .hbm, ⟨7, _⟩ => ⟨S1x2048x2048, .bf16⟩
  | .hbm, ⟨8, _⟩ => ⟨S2048x2048, .bf16⟩
  | .hbm, ⟨9, _⟩ => ⟨S2048x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== InProj.lean ====
abbrev S4x4096x2048 : Shape := ⟨3, ![4, 4096, 2048]⟩
abbrev S1x2048 : Shape := ⟨2, ![1, 2048]⟩
abbrev S4x1x2048 : Shape := ⟨3, ![4, 1, 2048]⟩
abbrev S2x2048x5664 : Shape := ⟨3, ![2, 2048, 5664]⟩
abbrev S2x8 : Shape := ⟨2, ![2, 8]⟩
abbrev S2x2048x4096 : Shape := ⟨3, ![2, 2048, 4096]⟩
abbrev S2x2048x1536 : Shape := ⟨3, ![2, 2048, 1536]⟩
abbrev S2x2048x5632 : Shape := ⟨3, ![2, 2048, 5632]⟩
abbrev S2x2048x32 : Shape := ⟨3, ![2, 2048, 32]⟩
abbrev S_ : Shape := ⟨0, ![]⟩
abbrev S2x2048x128 : Shape := ⟨3, ![2, 2048, 128]⟩
abbrev S1x16 : Shape := ⟨2, ![1, 16]⟩
abbrev S1x128 : Shape := ⟨2, ![1, 128]⟩
abbrev S4x4096x5632 : Shape := ⟨3, ![4, 4096, 5632]⟩
abbrev S4x4096x128 : Shape := ⟨3, ![4, 4096, 128]⟩
abbrev S1x512x2048 : Shape := ⟨3, ![1, 512, 2048]⟩
abbrev S1x1x2048 : Shape := ⟨3, ![1, 1, 2048]⟩
abbrev S1x2048x2816 : Shape := ⟨3, ![1, 2048, 2816]⟩
abbrev S1x2048x128 : Shape := ⟨3, ![1, 2048, 128]⟩
abbrev S1x512x2816 : Shape := ⟨3, ![1, 512, 2816]⟩
abbrev S1x512x128 : Shape := ⟨3, ![1, 512, 128]⟩
abbrev S512x2048 : Shape := ⟨2, ![512, 2048]⟩
abbrev S512 : Shape := ⟨1, ![512]⟩
abbrev S512x1 : Shape := ⟨2, ![512, 1]⟩
abbrev S2048x128 : Shape := ⟨2, ![2048, 128]⟩
abbrev S512x128 : Shape := ⟨2, ![512, 128]⟩
abbrev S2048x2816 : Shape := ⟨2, ![2048, 2816]⟩
abbrev S512x2816 : Shape := ⟨2, ![512, 2816]⟩

abbrev nBuf : Space → Nat
  | .hbm => 26
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S2x2048x5664, .f32⟩
  | .hbm, ⟨5, _⟩ => ⟨S2x8, .f32⟩
  | .hbm, ⟨6, _⟩ => ⟨S2x8, .f32⟩
  | .hbm, ⟨7, _⟩ => ⟨S2x2048x4096, .f32⟩
  | .hbm, ⟨8, _⟩ => ⟨S2x2048x1536, .f32⟩
  | .hbm, ⟨9, _⟩ => ⟨S2x2048x5632, .f32⟩
  | .hbm, ⟨10, _⟩ => ⟨S2x2048x5632, .bf16⟩
  | .hbm, ⟨11, _⟩ => ⟨S2x2048x32, .f32⟩
  | .hbm, ⟨12, _⟩ => ⟨S_, .i32⟩
  | .hbm, ⟨13, _⟩ => ⟨S_, .f32⟩
  | .hbm, ⟨14, _⟩ => ⟨S2x2048x128, .f32⟩
  | .hbm, ⟨15, _⟩ => ⟨S2x2048x128, .bf16⟩
  | .hbm, ⟨16, _⟩ => ⟨S1x16, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1x16, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S4x4096x5632, .bf16⟩
  | .hbm, ⟨25, _⟩ => ⟨S4x4096x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x2816, .bf16⟩
  | .local _ .vmem, ⟨8, _⟩ => ⟨S1x2048x2816, .bf16⟩
  | .local _ .vmem, ⟨9, _⟩ => ⟨S1x2048x128, .bf16⟩
  | .local _ .vmem, ⟨10, _⟩ => ⟨S1x128, .f32⟩
  | .local _ .vmem, ⟨11, _⟩ => ⟨S1x128, .f32⟩
  | .local _ .vmem, ⟨12, _⟩ => ⟨S1x512x2816, .bf16⟩
  | .local _ .vmem, ⟨13, _⟩ => ⟨S1x512x2816, .bf16⟩
  | .local _ .vmem, ⟨14, _⟩ => ⟨S1x512x128, .f32⟩
  | .local _ .vmem, ⟨15, _⟩ => ⟨S1x512x128, .f32⟩
  | .local _ .vmem, ⟨16, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![4, 8, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== InProjRefIdeal.lean ====
abbrev S4x4096x2048 : Shape := ⟨3, ![4, 4096, 2048]⟩
abbrev S1x2048 : Shape := ⟨2, ![1, 2048]⟩
abbrev S4x1x2048 : Shape := ⟨3, ![4, 1, 2048]⟩
abbrev S2x2048x5664 : Shape := ⟨3, ![2, 2048, 5664]⟩
abbrev S2x8 : Shape := ⟨2, ![2, 8]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x5664 : Shape := ⟨3, ![1, 2048, 5664]⟩
abbrev S2048x5664 : Shape := ⟨2, ![2048, 5664]⟩
abbrev S4x4096x5664 : Shape := ⟨3, ![4, 4096, 5664]⟩
abbrev S4x4096x4096 : Shape := ⟨3, ![4, 4096, 4096]⟩
abbrev S4x4096x1536 : Shape := ⟨3, ![4, 4096, 1536]⟩
abbrev S4x4096x5632 : Shape := ⟨3, ![4, 4096, 5632]⟩
abbrev S4x4096x16 : Shape := ⟨3, ![4, 4096, 16]⟩
abbrev S4x4096x2x8 : Shape := ⟨4, ![4, 4096, 2, 8]⟩
abbrev S1x1x2x8 : Shape := ⟨4, ![1, 1, 2, 8]⟩
abbrev S4x4096x32 : Shape := ⟨3, ![4, 4096, 32]⟩
abbrev S4x4096x128 : Shape := ⟨3, ![4, 4096, 128]⟩

abbrev nBuf : Space → Nat
  | .hbm => 76
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S2x2048x5664, .f32⟩
  | .hbm, ⟨5, _⟩ => ⟨S2x8, .f32⟩
  | .hbm, ⟨6, _⟩ => ⟨S2x8, .f32⟩
  | .hbm, ⟨7, _⟩ => ⟨S2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S1x2048x5664, .f32⟩
  | .hbm, ⟨32, _⟩ => ⟨S2048x5664, .f32⟩
  | .hbm, ⟨33, _⟩ => ⟨S4x4096x5664, .f32⟩
  | .hbm, ⟨34, _⟩ => ⟨S4x4096x4096, .f32⟩
  | .hbm, ⟨35, _⟩ => ⟨S4x4096x1536, .f32⟩
  | .hbm, ⟨36, _⟩ => ⟨S4x4096x5632, .f32⟩
  | .hbm, ⟨37, _⟩ => ⟨S4x4096x16, .f32⟩
  | .hbm, ⟨38, _⟩ => ⟨S4x4096x16, .f32⟩
  | .hbm, ⟨39, _⟩ => ⟨S4x4096x16, .f32⟩
  | .hbm, ⟨40, _⟩ => ⟨S_, .f32⟩
  | .hbm, ⟨41, _⟩ => ⟨S4x4096x16, .f32⟩
  | .hbm, ⟨42, _⟩ => ⟨S4x4096x16, .f32⟩
  | .hbm, ⟨43, _⟩ => ⟨S_, .f32⟩
  | .hbm, ⟨44, _⟩ => ⟨S4x4096x16, .f32⟩
  | .hbm, ⟨45, _⟩ => ⟨S4x4096x16, .f32⟩
  | .hbm, ⟨46, _⟩ => ⟨S4x4096x16, .f32⟩
  | .hbm, ⟨47, _⟩ => ⟨S4x4096x2x8, .f32⟩
  | .hbm, ⟨48, _⟩ => ⟨S2x8, .f32⟩
  | .hbm, ⟨49, _⟩ => ⟨S2x8, .f32⟩
  | .hbm, ⟨50, _⟩ => ⟨S1x1x2x8, .f32⟩
  | .hbm, ⟨51, _⟩ => ⟨S4x4096x2x8, .f32⟩
  | .hbm, ⟨52, _⟩ => ⟨S4x4096x2x8, .f32⟩
  | .hbm, ⟨53, _⟩ => ⟨S_, .f32⟩
  | .hbm, ⟨54, _⟩ => ⟨S4x4096x2x8, .f32⟩
  | .hbm, ⟨55, _⟩ => ⟨S4x4096x2x8, .f32⟩
  | .hbm, ⟨56, _⟩ => ⟨S4x4096x2x8, .f32⟩
  | .hbm, ⟨57, _⟩ => ⟨S4x4096x2x8, .f32⟩
  | .hbm, ⟨58, _⟩ => ⟨S4x4096x2x8, .i1⟩
  | .hbm, ⟨59, _⟩ => ⟨S4x4096x2x8, .f32⟩
  | .hbm, ⟨60, _⟩ => ⟨S4x4096x2x8, .f32⟩
  | .hbm, ⟨61, _⟩ => ⟨S4x4096x2x8, .f32⟩
  | .hbm, ⟨62, _⟩ => ⟨S4x4096x2x8, .f32⟩
  | .hbm, ⟨63, _⟩ => ⟨S4x4096x2x8, .f32⟩
  | .hbm, ⟨64, _⟩ => ⟨S4x4096x2x8, .f32⟩
  | .hbm, ⟨65, _⟩ => ⟨S4x4096x2x8, .f32⟩
  | .hbm, ⟨66, _⟩ => ⟨S4x4096x2x8, .f32⟩
  | .hbm, ⟨67, _⟩ => ⟨S1x1x2x8, .f32⟩
  | .hbm, ⟨68, _⟩ => ⟨S4x4096x2x8, .f32⟩
  | .hbm, ⟨69, _⟩ => ⟨S4x4096x2x8, .f32⟩
  | .hbm, ⟨70, _⟩ => ⟨S4x4096x16, .f32⟩
  | .hbm, ⟨71, _⟩ => ⟨S4x4096x32, .f32⟩
  | .hbm, ⟨72, _⟩ => ⟨S4x4096x5632, .bf16⟩
  | .hbm, ⟨73, _⟩ => ⟨S_, .i32⟩
  | .hbm, ⟨74, _⟩ => ⟨S_, .f32⟩
  | .hbm, ⟨75, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c : Ref sig .tc := ⟨.hbm, 73, rfl⟩
abbrev main_call1_v0 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== KPrep.lean ====
abbrev S4x4096x5632 : Shape := ⟨3, ![4, 4096, 5632]⟩
abbrev S1x128 : Shape := ⟨2, ![1, 128]⟩
abbrev S4096x128 : Shape := ⟨2, ![4096, 128]⟩
abbrev S4x4096x256 : Shape := ⟨3, ![4, 4096, 256]⟩
abbrev S1x512x512 : Shape := ⟨3, ![1, 512, 512]⟩
abbrev S512x128 : Shape := ⟨2, ![512, 128]⟩
abbrev S1x512x256 : Shape := ⟨3, ![1, 512, 256]⟩
abbrev S128x128 : Shape := ⟨2, ![128, 128]⟩
abbrev S1x512x128 : Shape := ⟨3, ![1, 512, 128]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4x4096x5632, .bf16⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4x4096x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x512x256, .bf16⟩
  | .local _ .vmem, ⟨8, _⟩ => ⟨S1x512x256, .bf16⟩
  | _, _ => ⟨S4x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KPrepRefIdeal.lean ====
abbrev S4x4096x5632 : Shape := ⟨3, ![4, 4096, 5632]⟩
abbrev S1x128 : Shape := ⟨2, ![1, 128]⟩
abbrev S4096x128 : Shape := ⟨2, ![4096, 128]⟩
abbrev S4x4096x256 : Shape := ⟨3, ![4, 4096, 256]⟩
abbrev S4x4096x2x128 : Shape := ⟨4, ![4, 4096, 2, 128]⟩
abbrev S128 : Shape := ⟨1, ![128]⟩
abbrev S_ : Shape := ⟨0, ![]⟩
abbrev S4x4096x2 : Shape := ⟨3, ![4, 4096, 2]⟩
abbrev S4x4096x2x1 : Shape := ⟨4, ![4, 4096, 2, 1]⟩
abbrev S1x1x1x128 : Shape := ⟨4, ![1, 1, 1, 128]⟩
abbrev S4096x1x128 : Shape := ⟨3, ![4096, 1, 128]⟩
abbrev S1x4096x1x128 : Shape := ⟨4, ![1, 4096, 1, 128]⟩
abbrev S4x4096x2x32 : Shape := ⟨4, ![4, 4096, 2, 32]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x5632, .bf16⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4x4096x256, .bf16⟩
  | .hbm, ⟨5, _⟩ => ⟨S4x4096x256, .f32⟩
  | .hbm, ⟨6, _⟩ => ⟨S4x4096x2x128, .f32⟩
  | .hbm, ⟨7, _⟩ => ⟨S128, .f32⟩
  | .hbm, ⟨8, _⟩ => ⟨S4x4096x2x128, .f32⟩
  | .hbm, ⟨9, _⟩ => ⟨S_, .f32⟩
  | .hbm, ⟨10, _⟩ => ⟨S4x4096x2, .f32⟩
  | .hbm, ⟨11, _⟩ => ⟨S4x4096x2x1, .f32⟩
  | .hbm, ⟨12, _⟩ => ⟨S_, .f32⟩
  | .hbm, ⟨13, _⟩ => ⟨S4x4096x2x1, .f32⟩
  | .hbm, ⟨14, _⟩ => ⟨S4x4096x2x1, .f32⟩
  | .hbm, ⟨15, _⟩ => ⟨S_, .f32⟩
  | .hbm, ⟨16, _⟩ => ⟨S4x4096x2x1, .f32⟩
  | .hbm, ⟨17, _⟩ => ⟨S4x4096x2x1, .f32⟩
  | .hbm, ⟨18, _⟩ => ⟨S4x4096x2x1, .f32⟩
  | .hbm, ⟨19, _⟩ => ⟨S4x4096x2x128, .f32⟩
  | .hbm, ⟨20, _⟩ => ⟨S4x4096x2x128, .f32⟩
  | .hbm, ⟨21, _⟩ => ⟨S1x1x1x128, .f32⟩
  | .hbm, ⟨22, _⟩ => ⟨S4x4096x2x128, .f32⟩
  | .hbm, ⟨23, _⟩ => ⟨S4x4096x2x128, .f32⟩
  | .hbm, ⟨24, _⟩ => ⟨S4096x1x128, .f32⟩
  | .hbm, ⟨25, _⟩ => ⟨S4096x1x128, .f32⟩
  | .hbm, ⟨26, _⟩ => ⟨S1x4096x1x128, .f32⟩
  | .hbm, ⟨27, _⟩ => ⟨S4x4096x2x128, .f32⟩
  | .hbm, ⟨28, _⟩ => ⟨S4x4096x2x128, .f32⟩
  | .hbm, ⟨29, _⟩ => ⟨S4x4096x2x32, .f32⟩
  | .hbm, ⟨30, _⟩ => ⟨S4x4096x2x32, .f32⟩
  | .hbm, ⟨31, _⟩ => ⟨S4x4096x2x32, .f32⟩
  | .hbm, ⟨32, _⟩ => ⟨S4x4096x2x32, .f32⟩
  | .hbm, ⟨33, _⟩ => ⟨S4x4096x2x32, .f32⟩
  | .hbm, ⟨34, _⟩ => ⟨S4x4096x2x32, .f32⟩
  | .hbm, ⟨35, _⟩ => ⟨S4x4096x2x128, .f32⟩
  | .hbm, ⟨36, _⟩ => ⟨S1x4096x1x128, .f32⟩
  | .hbm, ⟨37, _⟩ => ⟨S4x4096x2x128, .f32⟩
  | .hbm, ⟨38, _⟩ => ⟨S4x4096x2x128, .f32⟩
  | .hbm, ⟨39, _⟩ => ⟨S4x4096x2x128, .f32⟩
  | .hbm, ⟨40, _⟩ => ⟨S4x4096x256, .f32⟩
  | .hbm, ⟨41, _⟩ => ⟨S4x4096x256, .bf16⟩
  | _, _ => ⟨S4x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== AdaLn.lean ====
abbrev S4x2048 : Shape := ⟨2, ![4, 2048]⟩
abbrev S2x2048x12288 : Shape := ⟨3, ![2, 2048, 12288]⟩
abbrev S2x12288 : Shape := ⟨2, ![2, 12288]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S2x2048x12288, .f32⟩
  | .hbm, ⟨3, _⟩ => ⟨S2x12288, .f32⟩
  | .hbm, ⟨4, _⟩ => ⟨S8x2048, .f32⟩
  | .hbm, ⟨5, _⟩ => ⟨S2x1x12288, .f32⟩
  | .hbm, ⟨6, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaLnRefIdeal.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S2x12288x4 : Shape := ⟨3, ![2, 12288, 4]⟩
abbrev S2x4x12288 : Shape := ⟨3, ![2, 4, 12288]⟩
abbrev S2x1x12288 : Shape := ⟨3, ![2, 1, 12288]⟩
abbrev S2x8x12288 : Shape := ⟨3, ![2, 8, 12288]⟩

abbrev nBuf : Space → Nat
  | .hbm => 33
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S2x2048x12288, .f32⟩
  | .hbm, ⟨3, _⟩ => ⟨S2x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2x12288x4, .f32⟩
  | .hbm, ⟨14, _⟩ => ⟨S2x4x12288, .f32⟩
  | .hbm, ⟨15, _⟩ => ⟨S2x1x12288, .f32⟩
  | .hbm, ⟨16, _⟩ => ⟨S2x4x12288, .f32⟩
  | .hbm, ⟨17, _⟩ => ⟨S2x4x12288, .f32⟩
  | .hbm, ⟨18, _⟩ => ⟨S4x2048, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S4x2048, .f32⟩
  | .hbm, ⟨27, _⟩ => ⟨S2x12288x4, .f32⟩
  | .hbm, ⟨28, _⟩ => ⟨S2x4x12288, .f32⟩
  | .hbm, ⟨29, _⟩ => ⟨S2x1x12288, .f32⟩
  | .hbm, ⟨30, _⟩ => ⟨S2x4x12288, .f32⟩
  | .hbm, ⟨31, _⟩ => ⟨S2x4x12288, .f32⟩
  | .hbm, ⟨32, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.AdaLnValue.lean ====
/-
  The modulation of both layers, `silu(c) · W + b`, for the prompt's and the sample's conditioning. The kernel puts the two
  conditionings' rows one below the other and takes 1024 columns of one layer per grid point; the reference computes each
  conditioning's modulation apart and joins the results. Over the extended reals the two agree everywhere, with no
  condition on the arguments.
-/
module

public import proofs.«01_k».proof.Defs
public import proofs.«01_k».proof.Proof.Gen.AdaLn.Frame
public import proofs.«01_k».proof.Proof.Gen.AdaLnIdeal.Frame
public import proofs.«01_k».proof.Proof.Gen.AdaLnRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdaLnRefIdeal.RefValue

open Cert.AdaLnRefIdeal Cert.AdaLnRefIdeal.Gen

/-- `silu` over the extended reals. -/
def silu (x : EReal) : EReal := x * Ideal.div 1 (1 + Ideal.exp (-x))

/-- One conditioning's modulation, all layers. -/
def modulation (c : FVec Ideal S4x2048 .f32) (w : FVec Ideal S2x2048x12288 .f32) (b : FVec Ideal S2x12288 .f32) :
    FVec Ideal S2x4x12288 .f32 :=
  addf (transpose S2x4x12288 [0, 2, 1] (Host.dotGeneral dot_S2x2048x12288_S4x2048_S2x12288x4_1_1_02_0_n_n none w
      (mulf c (Host.divf (broadcastInDim S4x2048 ![] bcast_S_S4x2048 (constant S_ .f32 0x3F800000#32))
        (addf (broadcastInDim S4x2048 ![] bcast_S_S4x2048 (constant S_ .f32 0x3F800000#32)) (Host.exp (Host.negf c))))))
      transposes_S2x12288x4_S2x4x12288_0_2_1)
    (broadcastInDim S2x4x12288 ![0, 1, 2] bcast_S2x1x12288_S2x4x12288_0_1_2
      (broadcastInDim S2x1x12288 ![0, 2] bcast_S2x12288_S2x1x12288_0_2 b))

/-- The reference's result: the prompt's modulation, then the sample's. -/
def REF (c0 c1 : FVec Ideal S4x2048 .f32) (w : FVec Ideal S2x2048x12288 .f32) (b : FVec Ideal S2x12288 .f32) :
    FVec Ideal S2x8x12288 .f32 :=
  concatenate S2x8x12288 1 [⟨S2x4x12288, modulation c0 w b⟩, ⟨S2x4x12288, modulation c1 w b⟩]
    concatenates_S2x4x12288_S2x4x12288_S2x8x12288_d1

/-- A modulation at an index. -/
theorem modulation_apply (c : FVec Ideal S4x2048 .f32) (w : FVec Ideal S2x2048x12288 .f32) (b : FVec Ideal S2x12288 .f32)
    (l : Fin 2) (r : Fin 4) (n : Fin 12288) : modulation c w b (ix3 l r n)
      = (∑ d : Fin 2048, silu (c (ix2 r d)) * w (ix3 l d n)) + b (ix2 l n) := by
  pointwise [modulation, silu]
  exact congrArg (· + b (ix2 l n)) (Finset.sum_congr rfl fun d _ => mul_comm _ _)

/-- The rows of two conditionings, one below the other. -/
def both (c0 c1 : FVec Ideal S4x2048 .f32) (r : Fin 8) (d : Fin 2048) : EReal :=
  if h : (r : ℕ) < 4 then c0 (ix2 ⟨r, h⟩ d) else c1 (ix2 ⟨r - 4, by omega⟩ d)

/-- The reference's result at an index. -/
theorem ref_apply (c0 c1 : FVec Ideal S4x2048 .f32) (w : FVec Ideal S2x2048x12288 .f32) (b : FVec Ideal S2x12288 .f32)
    (l : Fin 2) (r : Fin 8) (n : Fin 12288) : REF c0 c1 w b (ix3 l r n)
      = (∑ d : Fin 2048, silu (both c0 c1 r d) * w (ix3 l d n)) + b (ix2 l n) := by
  pointwise [REF, both]
  by_cases h : (r : ℕ) < 4
  · simp only [dif_pos h]
    exact modulation_apply c0 w b l _ n
  · simp only [dif_neg h]
    exact modulation_apply c1 w b l _ n

end Cert.AdaLnRefIdeal.RefValue

namespace Cert.AdaLnIdeal.RefValue

open Cert.AdaLnIdeal Cert.AdaLnIdeal.Gen
open Cert.AdaLnRefIdeal.RefValue (silu both REF ref_apply)

variable (m : (ℓ : Loc nD τ sig) → Buf (Elt Ideal) ℓ) (ρ : Dev nD → PrngReg)

/-- The two conditionings as the host joins them. -/
def rows (c0 c1 : FVec Ideal S4x2048 .f32) : FVec Ideal S8x2048 .f32 :=
  concatenate S8x2048 0 [⟨S4x2048, c0⟩, ⟨S4x2048, c1⟩] concatenates_S4x2048_S4x2048_S8x2048_d0

/-- The operands the launch finds: the joined conditionings, and the biases with an axis of length one put in. -/
theorem operands_eq (c : Dev nD) :
    V m c main_v0 = rows (m ((c : Thread nD τ).loc main_arg0)) (m ((c : Thread nD τ).loc main_arg1))
    ∧ V m c main_v1 = shapeCast S2x1x12288 (m ((c : Thread nD τ).loc main_arg3)) shapeCasts_S2x12288_S2x1x12288 := by
  dsimp only [V, hostOps0]
  refine ⟨?_, ?_⟩ <;> (after_results_simp; rfl)

/-- A row of the joined conditionings. -/
theorem rows_apply (c0 c1 : FVec Ideal S4x2048 .f32) (r : Fin 8) (d : Fin 2048) : rows c0 c1 (ix2 r d) = both c0 c1 r d := by
  pointwise [rows, both]

/-- A bias, an axis of length one put in. -/
theorem bias_apply (b : FVec Ideal S2x12288 .f32) (l : Fin 2) (n : Fin 12288) :
    shapeCast S2x1x12288 b shapeCasts_S2x12288_S2x1x12288 (ix3 l (0 : Fin 1) n) = b (ix2 l n) := by
  pointwise

/-- What the body stores at an index of its block. -/
theorem pay_apply (x : FVec Ideal S8x2048 .f32) (w : FVec Ideal S1x2048x1024 .f32) (b : FVec Ideal S1x1x1024 .f32)
    (r : Fin 8) (n : Fin 1024) : k0_pay1 (F := Ideal) x w b (ix3 (0 : Fin 1) r n)
      = (∑ d : Fin 2048, silu (x (ix2 r d)) * w (ix3 (0 : Fin 1) d n)) + b (ix3 (0 : Fin 1) (0 : Fin 1) n) := by
  pointwise [k0_pay1, silu, zero_sub]

/-- The block indices of the windows at point `t`: layer `t / 12`, column tile `t % 12`. -/
theorem idx : ∀ t : Fin cfg0.N,
    win0_0.index t = ![0, 0] ∧ win0_1.index t = ![t.val / 12, 0, t.val % 12]
    ∧ win0_2.index t = ![t.val / 12, 0, t.val % 12] ∧ win0_3.index t = ![t.val / 12, 0, t.val % 12] ∧ t.val / 12 < 2 :=
  (by decide +kernel : ∀ t : Fin grid0.N, _)

/-- The layer of point `t`. -/
def layer (t : Fin cfg0.N) : Fin 2 := ⟨t.val / 12, (idx t).2.2.2.2⟩
/-- The array column of local column `n` at point `t`. -/
def col (t : Fin cfg0.N) (n : Fin 1024) : Fin 12288 := ⟨t.val % 12 * 1024 + n.val, by have := n.isLt; omega⟩

/-- What the body stores at an index of its block at point `t` is the reference's value where the index sits in the array. -/
theorem point (c : Dev nD) (t : Fin cfg0.N) (r : Fin 8) (n : Fin 1024) :
    k0_pay1 (iblk m c 0 t) (iblk m c 1 t) (iblk m c 2 t) (ix3 (0 : Fin 1) r n)
      = REF (m ((c : Thread nD τ).loc main_arg0)) (m ((c : Thread nD τ).loc main_arg1)) (m ((c : Thread nD τ).loc main_arg2))
          (m ((c : Thread nD τ).loc main_arg3)) (ix3 (layer t) r (col t n)) := by
  have e0 : ∀ d : Fin 2048, iblk m c 0 t (ix2 r d)
      = both (m ((c : Thread nD τ).loc main_arg0)) (m ((c : Thread nD τ).loc main_arg1)) r d := by
    intro d
    refine Eq.trans ?_ (rows_apply _ _ r d)
    rw [← (operands_eq m c).1]
    blk_point [iblk, idx t]
  have e1 : ∀ d : Fin 2048, iblk m c 1 t (ix3 (0 : Fin 1) d n)
      = m ((c : Thread nD τ).loc main_arg2) (ix3 (layer t) d (col t n)) := by
    intro d; unfold layer col; rw [← V_main_arg2 m c]; blk_point [iblk, idx t]
  have e2 : iblk m c 2 t (ix3 (0 : Fin 1) (0 : Fin 1) n) = m ((c : Thread nD τ).loc main_arg3) (ix2 (layer t) (col t n)) := by
    refine Eq.trans (b := V m c main_v1 (ix3 (layer t) (0 : Fin 1) (col t n))) ?_ ?_
    · unfold layer col; blk_point [iblk, idx t]
    · exact (congrFun (operands_eq m c).2 _).trans (bias_apply _ _ _)
  refine (pay_apply _ _ _ r n).trans (Eq.trans ?_ (ref_apply _ _ _ _ (layer t) r (col t n)).symm)
  simp only [e0, e1, e2]

/-- The result array after the run is the reference's function of the arguments. -/
theorem final (c : Dev nD) : (dats m 0 c).arrAt 3 (cfgs 0).N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 3 _ (by decide +kernel) fun t hf y => ?_
  blk_simp
  rw [after0_3]; frame_out
  refine Eq.trans ?_ ((point m c t (y 1) (y 2)).trans ?_)
  · blk_ext
  · unfold layer col; blk_ext [idx t]

end Cert.AdaLnIdeal.RefValue

/-! ## The claims about the modulation -/

namespace Cert.Proof.AdaLnClaims

/-- The kernel as written runs, leaves its arguments, and ends quiescent. -/
theorem frame_k : Cert.quiescent_AdaLn := fun m g _ => Cert.AdaLn.Gen.frame m g
/-- So does the kernel read over the extended reals, -/
theorem frame_ki : Cert.quiescent_AdaLnIdeal := fun m g _ => Cert.AdaLnIdeal.Gen.frame m g
/-- and the reference read over the extended reals, which has no semaphore. -/
theorem frame_ri : Cert.quiescent_AdaLnRefIdeal := fun m g _ =>
  (θ_run Cert.AdaLnRefIdeal.defs _ _).mono (fun r h => ⟨fun c => (h c).2, sem_eq_zero_of_no_sems (by decide) r.2⟩)
    (Cert.AdaLnRefIdeal.Value.run (F := Ideal) m g)

/-- The exact reading of the kernel replaces nothing in it. -/
theorem preserves : Cert.preserves_AdaLn_AdaLnIdeal := trivial

/-- Over the extended reals the kernel's result is the reference's, element by element, for all arguments. -/
theorem algebraic : Cert.algebraic_AdaLnIdeal_AdaLnRefIdeal := by
  pair_intro
  · run_from Cert.AdaLnIdeal.Gen.run_main m g
  · run_from Cert.AdaLnRefIdeal.Value.run m' g'
    obtain ⟨a0, a1, a2, a3⟩ := hagree c
    rw [a3]
    exact (Cert.AdaLnIdeal.RefValue.final m c).symm

end Cert.Proof.AdaLnClaims

end
-- ==== Proof.AttnMath.lean ====
/-
  The arithmetic of one row of attention over the extended reals: RMSNorm and rotary positions of a query, the scale taken
  into the query or out of the scores, and a softmax read with base two or with base e, its division inside or outside the
  weighted sum.
-/
module

public import Idealize.ShloMosaic.Lib.Pointwise
public import Idealize.ShloMosaic.Lib.IdealHost

@[expose] public section

noncomputable section

open Idealize.ShloMosaic

namespace Cert.Proof.AttnMath

/-! ## Constants -/

/-- The word of 128. -/
theorem bits_128 : Ideal.ofBits .f32 0x43000000#32 = ((128 : ℝ) : EReal) := by
  simp [Ideal.ofBits, Ideal.ieee, -EReal.coe_mul]; norm_num

/-- The word of minus infinity. -/
theorem bits_neg_inf : Ideal.ofBits .f32 0xFF800000#32 = ⊥ := by
  simp [Ideal.ofBits, Ideal.ieee]

/-- The word of infinity. -/
theorem bits_inf : Ideal.ofBits .f32 0x7F800000#32 = ⊤ := by
  simp [Ideal.ofBits, Ideal.ieee]

/-- The word of -1. -/
theorem bits_neg_one : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The epsilon under the root is a positive real. -/
theorem bits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-! ## The lanes a rotation pairs -/

/-- The lane a rotation pairs with `l`: 32 up in the lower half of a half row, 32 down in its upper half. -/
def prt (l : Fin 128) : Fin 128 := if h : (l : ℕ) % 64 < 32 then ⟨l + 32, by omega⟩ else ⟨l - 32, by omega⟩

/-- The sign the paired lane takes. -/
def sgn (l : Fin 128) : EReal := if (l : ℕ) % 64 < 32 then -1 else 1

/-- The partner of a lane in the lower half of its half row. -/
theorem prt_low {l : Fin 128} (h : (l : ℕ) % 64 < 32) : prt l = ⟨l + 32, by omega⟩ := dif_pos h
/-- The partner of a lane in the upper half of its half row. -/
theorem prt_high {l : Fin 128} (h : ¬ (l : ℕ) % 64 < 32) : prt l = ⟨l - 32, by omega⟩ := dif_neg h
/-- The sign of a lane in the lower half of its half row. -/
theorem sgn_low {l : Fin 128} (h : (l : ℕ) % 64 < 32) : sgn l = -1 := if_pos h
/-- The sign of a lane in the upper half of its half row. -/
theorem sgn_high {l : Fin 128} (h : ¬ (l : ℕ) % 64 < 32) : sgn l = 1 := if_neg h

/-! ## RMSNorm -/

/-- The factor of RMSNorm: one over the root of the mean square and the epsilon. -/
def rms (x : Fin 128 → EReal) : EReal :=
  Ideal.rsqrt (Ideal.div (∑ i, x i * x i) (Ideal.ofBits .f32 0x43000000#32) + Ideal.ofBits .f32 0x358637BD#32)

/-- A square of an extended real is not negative. -/
theorem sq_nonneg' (x : EReal) : 0 ≤ x * x := by
  rcases le_total 0 x with h | h
  · exact mul_nonneg h h
  · have h' : 0 ≤ -x := by simpa using EReal.neg_le_neg_iff.2 h
    simpa using mul_nonneg h' h'

/-- The factor is a nonnegative real, and it is zero unless all entries are real. -/
theorem rms_spec (x : Fin 128 → EReal) : (∃ r : ℝ, 0 ≤ r ∧ rms x = r) ∧ (rms x = 0 ∨ ∀ i, x i ≠ ⊤ ∧ x i ≠ ⊥) := by
  obtain ⟨e, he, hb⟩ := bits_eps
  have hs : 0 ≤ ∑ i, x i * x i := Finset.sum_nonneg fun i _ => sq_nonneg' (x i)
  by_cases ht : ∑ i, x i * x i = ⊤
  · have hz : rms x = 0 := by
      unfold rms
      rw [hb, bits_128, ht, Ideal.div_coe (by norm_num), EReal.top_mul_coe_of_pos (by norm_num), EReal.top_add_coe,
        Ideal.rsqrt_top]
    exact ⟨⟨0, le_rfl, by rw [hz]; rfl⟩, Or.inl hz⟩
  · have hbot : ∑ i, x i * x i ≠ ⊥ := fun h => by rw [h] at hs; exact absurd hs (by simp)
    obtain ⟨S, hS⟩ : ∃ S : ℝ, ∑ i, x i * x i = S := ⟨_, (EReal.coe_toReal ht hbot).symm⟩
    have hS0 : 0 ≤ S := by rw [hS] at hs; exact_mod_cast hs
    have hp : 0 < S * (1 / 128) + e := by positivity
    refine ⟨⟨(Real.sqrt (S * (1 / 128) + e))⁻¹, by positivity, ?_⟩, Or.inr fun i => ?_⟩
    · unfold rms
      rw [hb, bits_128, hS, Ideal.div_coe (by norm_num), ← EReal.coe_mul, ← EReal.coe_add, Ideal.rsqrt_coe,
        if_neg (not_lt.2 hp.le), if_neg hp.ne']
    · have hle : x i * x i ≤ ∑ i, x i * x i := Finset.single_le_sum (f := fun i => x i * x i) (fun j _ => sq_nonneg' (x j)) (Finset.mem_univ i)
      constructor
      · intro h; rw [h, EReal.top_mul_top, top_le_iff] at hle; exact ht hle
      · intro h; rw [h, EReal.bot_mul_bot, top_le_iff] at hle; exact ht hle

/-- A normalised entry is real whatever the row holds. -/
theorem mul_rms_real (x : Fin 128 → EReal) (i : Fin 128) : ∃ r : ℝ, x i * rms x = r := by
  obtain ⟨⟨r, _, hr⟩, h⟩ := rms_spec x
  rcases h with h | h
  · exact ⟨0, by rw [h, mul_zero]; rfl⟩
  · exact ⟨(x i).toReal * r, by rw [hr, EReal.coe_mul, EReal.coe_toReal (h i).1 (h i).2]⟩

/-! ## A rotated query -/

/-- RMSNorm of the row `x` with the weights `w`, and rotary positions with the angles' cosines `c` and sines `s`. -/
def qrow (x w c s : Fin 128 → EReal) (l : Fin 128) : EReal :=
  x l * rms x * w l * c l + sgn l * (x (prt l) * rms x * w (prt l)) * s l

/-- The same with a factor `a` put into the weights and RMSNorm's factor last. -/
def qrowScaled (a : EReal) (x w c s : Fin 128 → EReal) (l : Fin 128) : EReal :=
  (x l * (w l * a * c l) + x (prt l) * sgn l * (w (prt l) * a * s l)) * rms x

/-- The signs are real numbers. -/
theorem sgn_real (l : Fin 128) : ∃ r : ℝ, sgn l = r := by
  by_cases h : (l : ℕ) % 64 < 32
  · exact ⟨-1, by rw [sgn_low h, EReal.coe_neg, EReal.coe_one]⟩
  · exact ⟨1, by rw [sgn_high h]; norm_cast⟩

/-- A nonnegative real factor goes into a sum. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- So it does into a sum of many terms. -/
theorem coe_mul_sum {a : ℝ} (ha : 0 ≤ a) {n : ℕ} (f : Fin n → EReal) : (a : EReal) * ∑ i, f i = ∑ i, (a : EReal) * f i := by
  classical
  induction (Finset.univ : Finset (Fin n)) using Finset.induction_on with
  | empty => simp
  | insert i s hi ih => rw [Finset.sum_insert hi, Finset.sum_insert hi, coe_mul_add ha, ih]

/-- A factor put into the weights is that factor of the rotated query. -/
theorem qrowScaled_eq {a : ℝ} (ha : 0 ≤ a) (x w c s : Fin 128 → EReal) (l : Fin 128) :
    qrowScaled a x w c s l = a * qrow x w c s l := by
  obtain ⟨⟨r, hr, hx⟩, _⟩ := rms_spec x
  unfold qrowScaled qrow
  rw [coe_mul_add ha, hx, mul_comm _ (r : EReal), coe_mul_add hr]
  refine congrArg₂ (· + ·) ?_ ?_ <;> ac_rfl

/-- With real weights and angles a rotated query is real whatever the row holds. -/
theorem qrow_real (x w c s : Fin 128 → EReal) (hw : ∀ i, ∃ r : ℝ, w i = r) (hc : ∀ i, ∃ r : ℝ, c i = r)
    (hs : ∀ i, ∃ r : ℝ, s i = r) (l : Fin 128) : ∃ r : ℝ, qrow x w c s l = r := by
  obtain ⟨x1, h1⟩ := mul_rms_real x l
  obtain ⟨x2, h2⟩ := mul_rms_real x (prt l)
  obtain ⟨w1, h3⟩ := hw l
  obtain ⟨w2, h4⟩ := hw (prt l)
  obtain ⟨c1, h5⟩ := hc l
  obtain ⟨s1, h6⟩ := hs l
  obtain ⟨g, h7⟩ := sgn_real l
  exact ⟨x1 * w1 * c1 + g * (x2 * w2) * s1, by unfold qrow; rw [h1, h2, h3, h4, h5, h6, h7]; norm_cast⟩

/-! ## A softmax -/

/-- The largest of a row of reals is real. -/
theorem fold_max_real {n : ℕ} (s : Fin (n + 1) → ℝ) : ∃ m : ℝ, (Finset.univ : Finset (Fin (n + 1))).fold max ⊥ (fun i => (s i : EReal)) = m := by
  have h : ∀ S : Finset (Fin (n + 1)), S.fold max ⊥ (fun i => (s i : EReal)) ≠ ⊤ := by
    classical
    intro S
    induction S using Finset.induction_on with
    | empty => simp
    | insert i S hi ih =>
      rw [Finset.fold_insert hi]
      rcases max_choice (s i : EReal) (S.fold max ⊥ (fun i => (s i : EReal))) with h | h <;> rw [h]
      · exact EReal.coe_ne_top _
      · exact ih
  have hb : (Finset.univ : Finset (Fin (n + 1))).fold max ⊥ (fun i => (s i : EReal)) ≠ ⊥ := by
    intro hb
    have hle : (s 0 : EReal) ≤ (Finset.univ : Finset (Fin (n + 1))).fold max ⊥ (fun i => (s i : EReal)) :=
      Finset.le_fold_max (s 0 : EReal) |>.2 (Or.inr ⟨0, Finset.mem_univ _, le_rfl⟩)
    rw [hb, le_bot_iff] at hle
    exact EReal.coe_ne_bot _ hle
  exact ⟨_, (EReal.coe_toReal (h _) hb).symm⟩

/-- A positive factor of every entry is that factor of the largest. -/
theorem fold_max_mul {n : ℕ} {a : ℝ} (ha : 0 < a) (s : Fin n → EReal) :
    (Finset.univ : Finset (Fin n)).fold max ⊥ (fun i => (a : EReal) * s i) = a * (Finset.univ : Finset (Fin n)).fold max ⊥ s := by
  have hmono : Monotone fun x : EReal => (a : EReal) * x := fun x y h =>
    mul_le_mul_of_nonneg_left h (by exact_mod_cast ha.le)
  have := Finset.fold_hom (op := max) (op' := max) (s := (Finset.univ : Finset (Fin n))) (f := s) (b := (⊥ : EReal))
    (m := fun x : EReal => (a : EReal) * x) (fun x y => hmono.map_max)
  rw [EReal.coe_mul_bot_of_pos ha] at this
  exact this

/-- The softmax-weighted mean of `v` under scores `s`: exponentials less the largest score, each over their sum. -/
def attend {n : ℕ} (s v : Fin n → EReal) : EReal :=
  ∑ u, v u * Ideal.div (Ideal.exp (s u - max ⊥ (Finset.univ.fold max ⊥ s)))
    (∑ i, Ideal.exp (s i - max ⊥ (Finset.univ.fold max ⊥ s)))

/-- The same with powers of two and one division after the weighted sum. -/
def attend2 {n : ℕ} (s v : Fin n → EReal) : EReal :=
  Ideal.div (∑ u, Ideal.exp2 (s u - Finset.univ.fold max ⊥ s) * v u) (∑ u, Ideal.exp2 (s u - Finset.univ.fold max ⊥ s))

/-- Powers of two of real scores over `log 2` weigh as exponentials of the scores. -/
theorem attend2_eq {n : ℕ} (s : Fin (n + 1) → ℝ) (v : Fin (n + 1) → EReal) :
    attend2 (fun u => ((Real.log 2)⁻¹ : ℝ) * (s u : EReal)) v = attend (fun u => (s u : EReal)) v := by
  have hl : 0 < Real.log 2 := Real.log_pos (by norm_num)
  obtain ⟨m, hm⟩ := fold_max_real s
  unfold attend2 attend
  rw [fold_max_mul (inv_pos.2 hl), hm, max_eq_right (bot_le : (⊥ : EReal) ≤ m)]
  have h1 : ∀ u, Ideal.exp2 (((Real.log 2)⁻¹ : ℝ) * (s u : EReal) - ((Real.log 2)⁻¹ : ℝ) * (m : EReal)) = (Real.exp (s u - m) : EReal) := by
    intro u
    rw [← EReal.coe_mul, ← EReal.coe_mul, ← EReal.coe_sub, Ideal.exp2_coe]
    refine congrArg _ ?_
    show (2 : ℝ) ^ (_ : ℝ) = _
    rw [Real.rpow_def_of_pos (by norm_num)]
    congr 1
    field_simp
  have h2 : ∀ u, Ideal.exp ((s u : EReal) - m) = (Real.exp (s u - m) : EReal) := by
    intro u; rw [← EReal.coe_sub, Ideal.exp_coe]
  simp only [h1, h2]
  have hsum : ∑ u, (Real.exp (s u - m) : EReal) = ((∑ u, Real.exp (s u - m) : ℝ) : EReal) := by
    classical
    induction (Finset.univ : Finset (Fin (n + 1))) using Finset.induction_on with
    | empty => simp
    | insert i S hi ih => rw [Finset.sum_insert hi, Finset.sum_insert hi, ih, EReal.coe_add]
  have hpos : 0 < ∑ u, Real.exp (s u - m) := Finset.sum_pos (fun u _ => Real.exp_pos _) Finset.univ_nonempty
  rw [hsum, Ideal.div_coe hpos.ne', mul_comm, coe_mul_sum (by positivity)]
  refine Finset.sum_congr rfl fun u _ => ?_
  rw [Ideal.div_coe hpos.ne']
  ac_rfl

end Cert.Proof.AttnMath

end
-- ==== Proof.AttnBody.lean ====
/-
  The attention kernel's body, read at an index.
-/
module

public import proofs.«01_k».proof.Proof.Gen.AttnIdeal.Frame
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem
open Cert.Proof.AttnMath

namespace Cert.AttnIdeal.RefValue

open Cert.AttnIdeal Cert.AttnIdeal.Gen

/-! ## The masks of the lanes -/

/-- Whether lane `l` lies in the lower half of its half row, as the body computes it: a remainder by 64, made nonnegative,
    compared with 32. -/
def mask (l : Fin 128) : BitVec 1 :=
  IntOp.cmpi CmpIPredicate.slt
    (Scalar.select
      (IntOp.andi
        (IntOp.xori
          (IntOp.cmpi CmpIPredicate.slt
            (IntOp.remsi ArithUnit.vector (BitVec.ofNat 32 ↑l)
              (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 ↑l)
            (Scalar.select (Scalar.cmpi CmpIPredicate.eq 64#32 0#32) 1#32 64#32)) 0#32))
      (IntOp.addi
        (IntOp.remsi ArithUnit.vector (BitVec.ofNat 32 ↑l)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 ↑l)
        (Scalar.select (Scalar.cmpi CmpIPredicate.eq 64#32 0#32) 1#32 64#32))) 32#32

/-- The mask is the lower half of each half row. -/
theorem mask_eq : ∀ l : Fin 128, mask l = if (l : ℕ) % 64 < 32 then 1#1 else 0#1 := by decide +kernel

/-- Lane `i` is 32 above lane `l`, as the body compares them. -/
theorem up_eq : ∀ l i : Fin 128, IntOp.cmpi CmpIPredicate.eq (BitVec.ofNat 32 ↑i) (IntOp.addi (BitVec.ofNat 32 ↑l) 32#32)
    = if (i : ℕ) = l + 32 then 1#1 else 0#1 := by decide +kernel

/-- Lane `i` is 32 below lane `l`, as the body compares them. -/
theorem down_eq : ∀ l i : Fin 128, IntOp.cmpi CmpIPredicate.eq (BitVec.ofNat 32 ↑i) (IntOp.subi (BitVec.ofNat 32 ↑l) 32#32)
    = if (i : ℕ) + 32 = l then 1#1 else 0#1 := by decide +kernel

/-- The body's choice among the signs of the pairing matrix, its three bits in hand. -/
theorem pick (m u d : Bool) (x y z : EReal) :
    Scalar.select (IntOp.andi (if m then 1#1 else 0#1) (if u then 1#1 else 0#1)) x
      (Scalar.select (IntOp.andi (IntOp.xori (if m then 1#1 else 0#1) 1#1) (if d then 1#1 else 0#1)) y z)
      = if m then (if u then x else z) else (if d then y else z) := by
  cases m <;> cases u <;> cases d <;> rfl

/-- The pairing matrix: at column `l` the sign of `l`, in the row of `l`'s partner. -/
theorem perm_apply (i l : Fin 128) : k0_pay2 (F := Ideal) (ix2 i l) = if i = prt l then sgn l else 0 := by
  pointwise [k0_pay2]
  show Scalar.select (IntOp.andi (mask l) _) _ (Scalar.select (IntOp.andi (IntOp.xori (mask l) 1#1) _) _ _) = _
  rw [mask_eq, up_eq, down_eq, bits_neg_one]
  have hp := pick (decide ((l : ℕ) % 64 < 32)) (decide ((i : ℕ) = l + 32)) (decide ((i : ℕ) + 32 = l)) (-1) 1 0
  simp only [decide_eq_true_eq] at hp
  refine hp.trans ?_
  by_cases h : (l : ℕ) % 64 < 32
  · rw [if_pos h, sgn_low h, prt_low h]
    refine if_congr ⟨fun e => Fin.ext e, fun e => congrArg Fin.val e⟩ rfl rfl
  · rw [if_neg h, sgn_high h, prt_high h]
    refine if_congr ⟨fun e => Fin.ext (by show (i : ℕ) = l - 32; omega), fun e => ?_⟩ rfl rfl
    have e' : (i : ℕ) = l - 32 := congrArg Fin.val e
    omega

/-- A row times the pairing matrix is the partner's entry with the sign. -/
theorem mul_perm (x : Fin 128 → EReal) (l : Fin 128) :
    ∑ i : Fin 128, x i * k0_pay2 (F := Ideal) (ix2 i l) = x (prt l) * sgn l := by
  rw [Finset.sum_eq_single (prt l)]
  · rw [perm_apply, if_pos rfl]
  · intro i _ h; rw [perm_apply, if_neg h, mul_zero]
  · intro h; exact absurd (Finset.mem_univ _) h

/-! ## The weights with the angles -/

/-- The scale of the queries with the change of base. -/
def scaleR : ℝ := (Real.log 2)⁻¹ * (Real.sqrt 128)⁻¹

/-- The named constant is the scale with the change of base. -/
theorem named_scale : Named.named (F := Ideal) κ "scale_log2e" (φ := .f32) 0x3E0293EE#32 = ((scaleR : ℝ) : EReal) := by
  have h := (IdealRules.named_const.statement κ "scale_log2e" .f32 0x3E0293EE#32
    (((Real.log 2)⁻¹ * (Real.sqrt 128)⁻¹ : ℝ) : EReal) rfl).2.2
  rw [h, scaleR]

/-- The cosine table with weight and scale. -/
theorem wc_apply (w : Vec Ideal S1x128 .f32) (c : Vec Ideal S128x128 .f32) (r l : Fin 128) :
    k0_pay3 (F := Ideal) w c (ix2 r l) = w (ix2 (0 : Fin 1) l) * (scaleR : EReal) * c (ix2 r l) := by
  pointwise [k0_pay3]
  rw [named_scale]

/-- The sine table with the partner's weight and the scale. -/
theorem ws_apply (w : Vec Ideal S1x128 .f32) (c : Vec Ideal S128x128 .f32) (r l : Fin 128) :
    k0_pay4 (F := Ideal) w c (iota .tc S1x128 32 [1] iota_S1x128_d1_w32) (ix2 r l)
      = w (ix2 (0 : Fin 1) (prt l)) * (scaleR : EReal) * c (ix2 r l) := by
  pointwise [k0_pay4]
  rw [named_scale]
  refine congrArg (fun z => z * (scaleR : EReal) * c (ix2 r l)) ?_
  show Scalar.select (mask l) _ _ = _
  rw [mask_eq]
  by_cases h : (l : ℕ) % 64 < 32
  · rw [if_pos h, prt_low h]
    exact congrArg (fun i => w (ix2 (0 : Fin 1) i)) (Fin.ext (by show ((l : ℕ) + 128 - 96) % 128 = l + 32; omega))
  · rw [if_neg h, prt_high h]
    exact congrArg (fun i => w (ix2 (0 : Fin 1) i)) (Fin.ext (by show ((l : ℕ) + 128 - 32) % 128 = l - 32; omega))

/-! ## One head's queries, and one group of four heads -/

/-- One head's rotated and scaled queries, over the weights and the angles. -/
abbrev headQ (w : Vec Ideal S1x128 .f32) (c s : Vec Ideal S128x128 .f32) (x : Vec Ideal S1x128x128 .bf16) :
    FVec Ideal S128x128 .bf16 :=
  k0_pay11 (F := Ideal) k0_pay2 (k0_pay3 w c) (k0_pay4 w s (iota .tc S1x128 32 [1] iota_S1x128_d1_w32)) x

/-- A head's queries in the body are the rotated normalised queries times the scale. -/
theorem headQ_apply (w : Vec Ideal S1x128 .f32) (c s : Vec Ideal S128x128 .f32) (x : Vec Ideal S1x128x128 .bf16)
    (r l : Fin 128) : headQ w c s x (ix2 r l)
      = scaleR * qrow (fun i => x (ix3 (0 : Fin 1) r i)) (fun i => w (ix2 (0 : Fin 1) i)) (fun i => c (ix2 r i)) (fun i => s (ix2 r i)) l := by
  have hs : 0 ≤ scaleR := mul_nonneg (inv_nonneg.2 (Real.log_nonneg (by norm_num))) (inv_nonneg.2 (Real.sqrt_nonneg _))
  rw [← qrowScaled_eq hs]
  pointwise [headQ, k0_pay11, qrowScaled, rms]
  rw [wc_apply, ws_apply]
  rw [mul_perm (fun i => x (ix3 (0 : Fin 1) r i)) l]

/-- Four heads' queries, one below the other. -/
abbrev stackQ (a b c d : FVec Ideal S128x128 .bf16) : FVec Ideal S512x128 .bf16 :=
  concatenate S512x128 0 [⟨S128x128, a⟩, ⟨S128x128, b⟩, ⟨S128x128, c⟩, ⟨S128x128, d⟩]
    concatenates_S128x128_S128x128_S128x128_S128x128_S512x128_d0

/-- The group's result: the softmax, in powers of two, of its queries' scores against the keys, and the mean of the values. -/
theorem group_apply (q : FVec Ideal S512x128 .bf16) (v k : Vec Ideal S1x4096x128 .bf16) (r : Fin 512) (l : Fin 128) :
    k0_pay26 (F := Ideal) k0_pay5 q v k (ix2 r l)
      = attend2 (fun u : Fin 4096 => ∑ d : Fin 128, q (ix2 r d) * k (ix3 (0 : Fin 1) u d)) (fun u => v (ix3 (0 : Fin 1) u l)) := by
  pointwise [k0_pay26, k0_pay5, attend2, bits_neg_inf]
  rfl

/-- A group of four heads' result. -/
abbrev group (a b c d : FVec Ideal S128x128 .bf16) (v k : Vec Ideal S1x4096x128 .bf16) : FVec Ideal S512x128 .f32 :=
  k0_pay26 (F := Ideal) k0_pay5 (stackQ a b c d) v k

end Cert.AttnIdeal.RefValue

end
-- ==== Proof.AttnKernel.lean ====
module

public import proofs.«01_k».proof.Proof.AttnBody
public import proofs.«01_k».proof.Proof.Gen.AttnIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen
open Cert.Proof.AttnMath

variable (m : (ℓ : Loc nD τ sig) → Buf (Elt Ideal) ℓ) (ρ : Dev nD → PrngReg)

/-- The block indices of the windows at point `t`: batch `t / 32`, row tile `t % 32`; queries from lane 4096, values from lane 5376. -/
theorem idx : ∀ t : Fin cfg0.N,
    win0_0.index t = ![t.val / 32, t.val % 32, 4] ∧ win0_1.index t = ![0, 0]
    ∧ win0_2.index t = ![t.val % 32, 0] ∧ win0_3.index t = ![t.val % 32, 0]
    ∧ win0_4.index t = ![t.val / 32, 0, 0] ∧ win0_5.index t = ![t.val / 32, 0, 21]
    ∧ win0_6.index t = ![t.val / 32, t.val % 32, 0] :=
  (by decide +kernel : ∀ t : Fin grid0.N, _)

/-- Head `h`'s queries of the point's rows. -/
abbrev hq (c : Dev nD) (t : Fin cfg0.N) (x : Vec Ideal S1x128x128 .bf16) : FVec Ideal S128x128 .bf16 :=
  headQ (iblk m c 1 t) (iblk m c 2 t) (iblk m c 3 t) x

/-- The head `h`, row `r`, lane `l` of what the body leaves. -/
def cell (c : Dev nD) (t : Fin cfg0.N) (h : Fin 8) (r l : Fin 128) : EReal :=
  attend2 (fun u : Fin 4096 => ∑ d : Fin 128,
      (scaleR * qrow (fun i => X0_0 m c t (ix3 (0 : Fin 1) r (⟨128 * h + i, by omega⟩ : Fin 1024)))
        (fun i => iblk m c 1 t (ix2 (0 : Fin 1) i)) (fun i => iblk m c 2 t (ix2 r i)) (fun i => iblk m c 3 t (ix2 r i)) d)
      * iblk m c 4 t (ix3 (0 : Fin 1) u (⟨128 * (h / 4) + d, by omega⟩ : Fin 256)))
    (fun u => iblk m c 5 t (ix3 (0 : Fin 1) u (⟨128 * (h / 4) + l, by omega⟩ : Fin 256)))

/-- Row `128 g + r` of four heads' queries one below the other is row `r` of head `g`'s. -/
theorem stackQ_apply (x : Fin 4 → FVec Ideal S128x128 .bf16) (g : Fin 4) (r l : Fin 128) :
    stackQ (x 0) (x 1) (x 2) (x 3) (ix2 (⟨128 * g + r, by omega⟩ : Fin 512) l) = x g (ix2 r l) := by
  fin_cases g <;> pointwise [stackQ] <;> blk_point [] <;> exact absurd ‹_› (by omega)

/-- A group's result at a row of its head `g` is that head's cell. -/
theorem group_cell (c : Dev nD) (t : Fin cfg0.N) (kv : Fin 2) (x : Fin 4 → Vec Ideal S1x128x128 .bf16)
    (v k : Vec Ideal S1x4096x128 .bf16)
    (hx : ∀ (g : Fin 4) (r i : Fin 128), x g (ix3 (0 : Fin 1) r i)
      = X0_0 m c t (ix3 (0 : Fin 1) r (⟨128 * (4 * kv + g) + i, by omega⟩ : Fin 1024)))
    (hv : ∀ (u : Fin 4096) (i : Fin 128), v (ix3 (0 : Fin 1) u i)
      = iblk m c 5 t (ix3 (0 : Fin 1) u (⟨128 * kv + i, by omega⟩ : Fin 256)))
    (hk : ∀ (u : Fin 4096) (i : Fin 128), k (ix3 (0 : Fin 1) u i)
      = iblk m c 4 t (ix3 (0 : Fin 1) u (⟨128 * kv + i, by omega⟩ : Fin 256)))
    (g : Fin 4) (r l : Fin 128) :
    group (hq m c t (x 0)) (hq m c t (x 1)) (hq m c t (x 2)) (hq m c t (x 3)) v k (ix2 (⟨128 * g + r, by omega⟩ : Fin 512) l)
      = cell m c t ⟨4 * kv + g, by omega⟩ r l := by
  refine (group_apply _ v k _ l).trans ?_
  unfold cell
  have e : (4 * (kv : ℕ) + g) / 4 = kv := by omega
  refine congrArg₂ attend2 (funext fun u => Finset.sum_congr rfl fun d _ => ?_) (funext fun u => (hv u l).trans ?_)
  · refine congrArg₂ (fun a b : EReal => a * b) ?_ ((hk u d).trans ?_)
    · refine (stackQ_apply (fun g => hq m c t (x g)) g r d).trans ((headQ_apply _ _ _ _ r d).trans ?_)
      refine congrArg (fun X : Fin 128 → EReal => (scaleR : EReal) * qrow X _ _ _ d) (funext fun i => hx g r i)
    · exact congrArg (fun n : Fin 256 => iblk m c 4 t (ix3 (0 : Fin 1) u n)) (Fin.ext (by show 128 * (kv : ℕ) + d = 128 * ((4 * kv + g) / 4) + d; rw [e]))
  · exact congrArg (fun n : Fin 256 => iblk m c 5 t (ix3 (0 : Fin 1) u n)) (Fin.ext (by show 128 * (kv : ℕ) + l = 128 * ((4 * kv + g) / 4) + l; rw [e]))

/-- The tiles the body cuts from the first group's result: its head `g` is rows `128 g .. 128 g + 127`. -/
theorem cut_apply (T : FVec Ideal S512x128 .f32) (x : S1x128x128.Idx) (r l : Fin 128) (hr : (x 1 : ℕ) = r) (hl : (x 2 : ℕ) = l) :
    k0_pay28 T x = T (ix2 (⟨128 * (1 : Fin 4) + r, by simp; omega⟩ : Fin 512) l)
    ∧ k0_pay29 T x = T (ix2 (⟨128 * (2 : Fin 4) + r, by simp; omega⟩ : Fin 512) l)
    ∧ k0_pay30 T x = T (ix2 (⟨128 * (3 : Fin 4) + r, by simp; omega⟩ : Fin 512) l) := by
  refine ⟨?_, ?_, ?_⟩
  · pointwise [k0_pay28]; blk_ext
  · pointwise [k0_pay29]; blk_ext
  · pointwise [k0_pay30]; blk_ext

/-- The first tile of a group, which the body cuts where it forms the result. -/
theorem cut_first (a b c d : FVec Ideal S128x128 .bf16) (v k : Vec Ideal S1x4096x128 .bf16)
    (x : S1x128x128.Idx) (r l : Fin 128) (hr : (x 1 : ℕ) = r) (hl : (x 2 : ℕ) = l) :
    k0_pay27 k0_pay5 (stackQ a b c d) v k x
      = group a b c d v k (ix2 (⟨128 * (0 : Fin 4) + r, by simp; omega⟩ : Fin 512) l) := by
  pointwise [k0_pay27]; blk_ext

/-- The tiles of the second group, which the body cuts from numerator and denominator still side by side. -/
theorem cut_second (T : FVec Ideal S512x256 .f32) (x : S1x128x128.Idx) (r l : Fin 128) (hr : (x 1 : ℕ) = r) (hl : (x 2 : ℕ) = l) :
    k0_pay32 T x = k0_pay31 T (ix2 (⟨128 * (0 : Fin 4) + r, by simp; omega⟩ : Fin 512) l)
    ∧ k0_pay33 T x = k0_pay31 T (ix2 (⟨128 * (1 : Fin 4) + r, by simp; omega⟩ : Fin 512) l)
    ∧ k0_pay34 T x = k0_pay31 T (ix2 (⟨128 * (2 : Fin 4) + r, by simp; omega⟩ : Fin 512) l)
    ∧ k0_pay1 (k0_pay35 T) x = k0_pay31 T (ix2 (⟨128 * (3 : Fin 4) + r, by simp; omega⟩ : Fin 512) l) := by
  refine ⟨?_, ?_, ?_, ?_⟩
  · pointwise [k0_pay32]; blk_ext
  · pointwise [k0_pay33]; blk_ext
  · pointwise [k0_pay34]; blk_ext
  · pointwise [k0_pay1, k0_pay35]; blk_ext

/-- A cell at equal indices. -/
theorem cell_congr (c : Dev nD) (t : Fin cfg0.N) (h h' : Fin 8) (r r' l l' : Fin 128) (eh : (h : ℕ) = h') (er : (r : ℕ) = r')
    (el : (l : ℕ) = l') : cell m c t h r l = cell m c t h' r' l' := by
  rw [Fin.ext eh, Fin.ext er, Fin.ext el]

/-- The first group's queries, as the body spells them, are four heads' queries one below the other. -/
theorem first_eq (w : Vec Ideal S1x128 .f32) (c s : Vec Ideal S128x128 .f32) (x0 x1 x2 x3 : Vec Ideal S1x128x128 .bf16) :
    k0_pay13 (F := Ideal) k0_pay2 (k0_pay3 w c) (k0_pay4 w s (iota .tc S1x128 32 [1] iota_S1x128_d1_w32))
      (k0_pay10 k0_pay2 (k0_pay4 w s (iota .tc S1x128 32 [1] iota_S1x128_d1_w32)) (k0_pay6 x0) (k0_pay8 x0) (k0_pay9 w c x0))
      (k0_pay11 k0_pay2 (k0_pay3 w c) (k0_pay4 w s (iota .tc S1x128 32 [1] iota_S1x128_d1_w32)) x1)
      (k0_pay12 k0_pay2 (k0_pay3 w c) (k0_pay4 w s (iota .tc S1x128 32 [1] iota_S1x128_d1_w32)) x2) x3
      = stackQ (headQ w c s x0) (headQ w c s x1) (headQ w c s x2) (headQ w c s x3) := rfl

/-- The second group's quotient, as the body spells it, is the group's result. -/
theorem second_eq (w : Vec Ideal S1x128 .f32) (c s : Vec Ideal S128x128 .f32) (x0 x1 x2 x3 : Vec Ideal S1x128x128 .bf16)
    (v k : Vec Ideal S1x4096x128 .bf16) :
    k0_pay31 (F := Ideal) (k0_pay25 k0_pay5
      (k0_pay14 k0_pay2 (k0_pay3 w c) (k0_pay4 w s (iota .tc S1x128 32 [1] iota_S1x128_d1_w32)) x0)
      (k0_pay19 k0_pay2 (k0_pay3 w c) (k0_pay4 w s (iota .tc S1x128 32 [1] iota_S1x128_d1_w32))
        (k0_pay15 x1) (k0_pay16 x1) (k0_pay17 x1) k0_pay18)
      (k0_pay20 k0_pay2 (k0_pay3 w c) (k0_pay4 w s (iota .tc S1x128 32 [1] iota_S1x128_d1_w32)) x2)
      (k0_pay23 x3) (k0_pay24 k0_pay2 (k0_pay3 w c) (k0_pay4 w s (iota .tc S1x128 32 [1] iota_S1x128_d1_w32)) x3) v k)
      = group (headQ w c s x0) (headQ w c s x1) (headQ w c s x2) (headQ w c s x3) v k := rfl

/-- `group_cell` with the four heads' rows given one by one. -/
theorem group_cell4 (c : Dev nD) (t : Fin cfg0.N) (kv : Fin 2) (x0 x1 x2 x3 : Vec Ideal S1x128x128 .bf16)
    (v k : Vec Ideal S1x4096x128 .bf16)
    (h0 : ∀ r i : Fin 128, x0 (ix3 (0 : Fin 1) r i) = X0_0 m c t (ix3 (0 : Fin 1) r (⟨512 * kv + i, by omega⟩ : Fin 1024)))
    (h1 : ∀ r i : Fin 128, x1 (ix3 (0 : Fin 1) r i) = X0_0 m c t (ix3 (0 : Fin 1) r (⟨512 * kv + 128 + i, by omega⟩ : Fin 1024)))
    (h2 : ∀ r i : Fin 128, x2 (ix3 (0 : Fin 1) r i) = X0_0 m c t (ix3 (0 : Fin 1) r (⟨512 * kv + 256 + i, by omega⟩ : Fin 1024)))
    (h3 : ∀ r i : Fin 128, x3 (ix3 (0 : Fin 1) r i) = X0_0 m c t (ix3 (0 : Fin 1) r (⟨512 * kv + 384 + i, by omega⟩ : Fin 1024)))
    (hv : ∀ (u : Fin 4096) (i : Fin 128), v (ix3 (0 : Fin 1) u i)
      = iblk m c 5 t (ix3 (0 : Fin 1) u (⟨128 * kv + i, by omega⟩ : Fin 256)))
    (hk : ∀ (u : Fin 4096) (i : Fin 128), k (ix3 (0 : Fin 1) u i)
      = iblk m c 4 t (ix3 (0 : Fin 1) u (⟨128 * kv + i, by omega⟩ : Fin 256)))
    (g : Fin 4) (r l : Fin 128) (h : Fin 8) (r' l' : Fin 128) (eh : 4 * (kv : ℕ) + g = h) (er : (r : ℕ) = r') (el : (l : ℕ) = l') :
    group (hq m c t x0) (hq m c t x1) (hq m c t x2) (hq m c t x3) v k (ix2 (⟨128 * g + r, by omega⟩ : Fin 512) l)
      = cell m c t h r' l' := by
  refine (group_cell m c t kv ![x0, x1, x2, x3] v k ?_ hv hk g r l).trans (cell_congr m c t _ _ _ _ _ _ eh er el)
  intro g r i
  have e : ∀ n n' : Fin 1024, (n : ℕ) = n' → X0_0 m c t (ix3 (0 : Fin 1) r n) = X0_0 m c t (ix3 (0 : Fin 1) r n') := by
    intro n n' h; rw [Fin.ext h]
  fin_cases g
  · exact (h0 r i).trans (e _ _ (by simp; omega))
  · exact (h1 r i).trans (e _ _ (by simp; omega))
  · exact (h2 r i).trans (e _ _ (by simp; omega))
  · exact (h3 r i).trans (e _ _ (by simp; omega))

/-- What the body leaves in its block at point `t`, entry by entry. -/
theorem point (c : Dev nD) (t : Fin cfg0.N) (y : S1x128x1024.Idx) :
    outsAt0 m c t y = cell m c t ⟨(y 2 : ℕ) / 128, by have : (y 2 : ℕ) < 1024 := (y 2).isLt; omega⟩ (y 1)
      ⟨(y 2 : ℕ) % 128, Nat.mod_lt _ (by norm_num)⟩ := by
  unfold Gen.outsAt0; frame_out
  canon_tiles x h
  case piece0 =>
    refine (((cut_second _ x (x 1) (x 2) rfl rfl).2.2.2).trans (congrFun (second_eq _ _ _ _ _ _ _ _ _) _)).trans
      (group_cell4 m c t 1 _ _ _ _ _ _ ?_ ?_ ?_ ?_ ?_ ?_ 3 (x 1) (x 2) _ _ _ ?_ ?_ ?_)
    all_goals first | (intro r i; pointwise; blk_ext) | exact h1.symm | (show (_ : ℕ) = (y 2 : ℕ) % 128; omega) | (simp; omega)
  case piece1 =>
    refine (((cut_second _ x (x 1) (x 2) rfl rfl).2.2.1).trans (congrFun (second_eq _ _ _ _ _ _ _ _ _) _)).trans
      (group_cell4 m c t 1 _ _ _ _ _ _ ?_ ?_ ?_ ?_ ?_ ?_ 2 (x 1) (x 2) _ _ _ ?_ ?_ ?_)
    all_goals first | (intro r i; pointwise; blk_ext) | exact h1.symm | (show (_ : ℕ) = (y 2 : ℕ) % 128; omega) | (simp; omega)
  case piece2 =>
    refine (((cut_second _ x (x 1) (x 2) rfl rfl).2.1).trans (congrFun (second_eq _ _ _ _ _ _ _ _ _) _)).trans
      (group_cell4 m c t 1 _ _ _ _ _ _ ?_ ?_ ?_ ?_ ?_ ?_ 1 (x 1) (x 2) _ _ _ ?_ ?_ ?_)
    all_goals first | (intro r i; pointwise; blk_ext) | exact h1.symm | (show (_ : ℕ) = (y 2 : ℕ) % 128; omega) | (simp; omega)
  case piece3 =>
    refine (((cut_second _ x (x 1) (x 2) rfl rfl).1).trans (congrFun (second_eq _ _ _ _ _ _ _ _ _) _)).trans
      (group_cell4 m c t 1 _ _ _ _ _ _ ?_ ?_ ?_ ?_ ?_ ?_ 0 (x 1) (x 2) _ _ _ ?_ ?_ ?_)
    all_goals first | (intro r i; pointwise; blk_ext) | exact h1.symm | (show (_ : ℕ) = (y 2 : ℕ) % 128; omega) | (simp; omega)
  case piece4 =>
    refine (((cut_apply _ x (x 1) (x 2) rfl rfl).2.2).trans (congrFun (congrArg (k0_pay26 k0_pay5 · _ _) (first_eq _ _ _ _ _ _ _)) _)).trans
      (group_cell4 m c t 0 _ _ _ _ _ _ ?_ ?_ ?_ ?_ ?_ ?_ 3 (x 1) (x 2) _ _ _ ?_ ?_ ?_)
    all_goals first | (intro r i; pointwise; blk_ext) | exact h1.symm | (show (_ : ℕ) = (y 2 : ℕ) % 128; omega) | (simp; omega)
  case piece5 =>
    refine (((cut_apply _ x (x 1) (x 2) rfl rfl).2.1).trans (congrFun (congrArg (k0_pay26 k0_pay5 · _ _) (first_eq _ _ _ _ _ _ _)) _)).trans
      (group_cell4 m c t 0 _ _ _ _ _ _ ?_ ?_ ?_ ?_ ?_ ?_ 2 (x 1) (x 2) _ _ _ ?_ ?_ ?_)
    all_goals first | (intro r i; pointwise; blk_ext) | exact h1.symm | (show (_ : ℕ) = (y 2 : ℕ) % 128; omega) | (simp; omega)
  case piece6 =>
    refine (((cut_apply _ x (x 1) (x 2) rfl rfl).1).trans (congrFun (congrArg (k0_pay26 k0_pay5 · _ _) (first_eq _ _ _ _ _ _ _)) _)).trans
      (group_cell4 m c t 0 _ _ _ _ _ _ ?_ ?_ ?_ ?_ ?_ ?_ 1 (x 1) (x 2) _ _ _ ?_ ?_ ?_)
    all_goals first | (intro r i; pointwise; blk_ext) | exact h1.symm | (show (_ : ℕ) = (y 2 : ℕ) % 128; omega) | (simp; omega)
  case piece7 =>
    rw [first_eq]
    refine (cut_first _ _ _ _ _ _ x (x 1) (x 2) rfl rfl).trans
      (group_cell4 m c t 0 _ _ _ _ _ _ ?_ ?_ ?_ ?_ ?_ ?_ 0 (x 1) (x 2) _ _ _ ?_ ?_ ?_)
    all_goals first | (intro r i; pointwise; blk_ext) | exact h1.symm | (show (_ : ℕ) = (y 2 : ℕ) % 128; omega) | (simp; omega)

end Cert.AttnIdeal.RefValue

end
-- ==== Proof.AttnRef.lean ====
/-
  The attention's reference, read at an index.
-/
module

public import proofs.«01_k».proof.Proof.Gen.AttnRefIdeal.Run
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem
open Cert.Proof.AttnMath

namespace Cert.AttnRefIdeal.RefValue

open Cert.AttnRefIdeal Cert.AttnRefIdeal.Gen

/-- The queries, one row of 128 per head. -/
def heads (p : FVec Ideal S4x4096x5632 .bf16) : FVec Ideal S4x4096x8x128 .f32 :=
  shapeCast S4x4096x8x128 (extractStridedSlice S4x4096x1024 ![0, 0, 4096] (extf .f32 p bitsLt_bf16_f32)
    slices_S4x4096x5632_S4x4096x1024_0_0_4096) shapeCasts_S4x4096x1024_S4x4096x8x128

/-- RMSNorm of the rows `x` with the weights `w`. -/
def normed (x : FVec Ideal S4x4096x8x128 .f32) (w : FVec Ideal S1x128 .f32) : FVec Ideal S4x4096x8x128 .f32 :=
  mulf (mulf x (broadcastInDim S4x4096x8x128 ![0, 1, 2, 3] bcast_S4x4096x8x1_S4x4096x8x128_0_1_2_3
      (Host.rsqrt (addf (Host.divf (broadcastInDim S4x4096x8x1 ![0, 1, 2] bcast_S4x4096x8_S4x4096x8x1_0_1_2
          (Host.reduceAdd (mulf x x) (constant S_ .f32 0x00000000#32) reducesTo_S4x4096x8x128_S4x4096x8_d3 h_S_))
        (broadcastInDim S4x4096x8x1 ![] bcast_S_S4x4096x8x1 (constant S_ .f32 0x43000000#32)))
        (broadcastInDim S4x4096x8x1 ![] bcast_S_S4x4096x8x1 (constant S_ .f32 0x358637BD#32))))))
    (broadcastInDim S4x4096x8x128 ![0, 1, 2, 3] bcast_S1x1x1x128_S4x4096x8x128_0_1_2_3
      (broadcastInDim S1x1x1x128 ![3] bcast_S128_S1x1x1x128_3 (shapeCast S128 w shapeCasts_S1x128_S128)))

/-- A table of angles spread over batch and heads. -/
def spread (c : FVec Ideal S4096x128 .f32) : FVec Ideal S4x4096x8x128 .f32 :=
  broadcastInDim S4x4096x8x128 ![0, 1, 2, 3] bcast_S1x4096x1x128_S4x4096x8x128_0_1_2_3
    (broadcastInDim S1x4096x1x128 ![1, 2, 3] bcast_S4096x1x128_S1x4096x1x128_1_2_3
      (broadcastInDim S4096x1x128 ![0, 2] bcast_S4096x128_S4096x1x128_0_2 c))

/-- The quarters of a row in the order second, first, fourth, third, the first and the third of them negated. -/
def turned (y : FVec Ideal S4x4096x8x128 .f32) : FVec Ideal S4x4096x8x128 .f32 :=
  concatenate S4x4096x8x128 3
    [⟨S4x4096x8x32, Host.negf (extractStridedSlice S4x4096x8x32 ![0, 0, 0, 32] y slices_S4x4096x8x128_S4x4096x8x32_0_0_0_32)⟩,
     ⟨S4x4096x8x32, extractStridedSlice S4x4096x8x32 ![0, 0, 0, 0] y slices_S4x4096x8x128_S4x4096x8x32_0_0_0_0⟩,
     ⟨S4x4096x8x32, Host.negf (extractStridedSlice S4x4096x8x32 ![0, 0, 0, 96] y slices_S4x4096x8x128_S4x4096x8x32_0_0_0_96)⟩,
     ⟨S4x4096x8x32, extractStridedSlice S4x4096x8x32 ![0, 0, 0, 64] y slices_S4x4096x8x128_S4x4096x8x32_0_0_0_64⟩]
    concatenates_S4x4096x8x32_S4x4096x8x32_S4x4096x8x32_S4x4096x8x32_S4x4096x8x128_d3

/-- Rotary positions. -/
def roped (y : FVec Ideal S4x4096x8x128 .f32) (c s : FVec Ideal S4096x128 .f32) : FVec Ideal S4x4096x8x128 .f32 :=
  addf (mulf y (spread c)) (mulf (turned y) (spread s))

/-- The scores of the rotated queries `q` against the keys, over the root of the head's width. -/
def scores (q : FVec Ideal S4x4096x8x128 .f32) (k : FVec Ideal S4x4096x256 .bf16) : FVec Ideal S4x2x4x4096x4096 .f32 :=
  Host.divf (transpose S4x2x4x4096x4096 [0, 1, 4, 3, 2]
      (Host.dotGeneral dot_S4x4096x2x128_S4x4096x2x4x128_S4x2x4096x4096x4_3_4_1_13_02_02 none
        (shapeCast S4x4096x2x128 (extf .f32 k bitsLt_bf16_f32) shapeCasts_S4x4096x256_S4x4096x2x128)
        (shapeCast S4x4096x2x4x128 q shapeCasts_S4x4096x8x128_S4x4096x2x4x128))
      transposes_S4x2x4096x4096x4_S4x2x4x4096x4096_0_1_4_3_2)
    (broadcastInDim S4x2x4x4096x4096 ![] bcast_S_S4x2x4x4096x4096 (Host.sqrt (constant S_ .f32 0x43000000#32)))

/-- A `reduce` over the last of five axes, read at an index: the fold along that axis. -/
theorem reduce_last {n0 n1 n2 n3 n4 : Nat} {u : Shape} {α : Type} (f : α → α → α) [Std.Commutative f] [Std.Associative f]
    (x : (⟨5, ![n0, n1, n2, n3, n4]⟩ : Shape).Idx → α) (init : u.Idx → α)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce f x init h hu (ix4 a b c d)
      = (Finset.univ : Finset (Fin n4)).fold f (init (Shape.Idx.first hu)) (fun e => x (ix5 a b c d e)) :=
  (Host.reduce_eq_fold f x init h hu _).trans (h.fold_fiber_r5_a4 _ f _ x)

/-- The row's largest score. -/
def rowMax (s : FVec Ideal S4x2x4x4096x4096 .f32) : FVec Ideal S4x2x4x4096 .f32 :=
  Host.reduce FloatOps.maximumf s (constant S_ .f32 0xFF800000#32) reducesTo_S4x2x4x4096x4096_S4x2x4x4096_d4 h_S_

/-- A row's largest score is the fold of `max` along the row. -/
theorem rowMax_apply (s : FVec Ideal S4x2x4x4096x4096 .f32) (b : Fin 4) (g : Fin 2) (j : Fin 4) (t : Fin 4096) :
    rowMax s (ix4 b g j t) = (Finset.univ : Finset (Fin 4096)).fold max (Ideal.ofBits .f32 0xFF800000#32)
      (fun u => s (ix5 b g j t u)) :=
  reduce_last (FloatOps.maximumf (F := Ideal) (φ := .f32)) s _ reducesTo_S4x2x4x4096x4096_S4x2x4x4096_d4 h_S_ b g j t

/-- A row's largest, taken once more against minus infinity. -/
def floored (v : FVec Ideal S4x2x4x4096 .f32) : FVec Ideal S4x2x4x4096 .f32 :=
  maximumf (broadcastInDim S4x2x4x4096 ![] bcast_S_S4x2x4x4096 (constant S_ .f32 0xFF800000#32)) v

/-- The largest with minus infinity, at an index. -/
theorem floored_apply (v : FVec Ideal S4x2x4x4096 .f32) (b : Fin 4) (g : Fin 2) (j : Fin 4) (t : Fin 4096) :
    floored v (ix4 b g j t) = max (Ideal.ofBits .f32 0xFF800000#32) (v (ix4 b g j t)) := by
  pointwise [floored]

/-- The exponentials of the scores less a number for each row. -/
def expLess (s : FVec Ideal S4x2x4x4096x4096 .f32) (v : FVec Ideal S4x2x4x4096 .f32) : FVec Ideal S4x2x4x4096x4096 .f32 :=
  Host.exp (subf s (broadcastInDim S4x2x4x4096x4096 ![0, 1, 2, 3, 4] bcast_S4x2x4x4096x1_S4x2x4x4096x4096_0_1_2_3_4
    (broadcastInDim S4x2x4x4096x1 ![0, 1, 2, 3] bcast_S4x2x4x4096_S4x2x4x4096x1_0_1_2_3 v)))

/-- The exponentials at an index. -/
theorem expLess_apply (s : FVec Ideal S4x2x4x4096x4096 .f32) (v : FVec Ideal S4x2x4x4096 .f32) (b : Fin 4) (g : Fin 2)
    (j : Fin 4) (t u : Fin 4096) : expLess s v (ix5 b g j t u) = Ideal.exp (s (ix5 b g j t u) - v (ix4 b g j t)) := by
  pointwise [expLess]

/-- The exponentials of the scores less their row's largest. -/
def weights (s : FVec Ideal S4x2x4x4096x4096 .f32) : FVec Ideal S4x2x4x4096x4096 .f32 := expLess s (floored (rowMax s))

/-- The weights over their row's sum. -/
def shares (e : FVec Ideal S4x2x4x4096x4096 .f32) : FVec Ideal S4x2x4x4096x4096 .f32 :=
  Host.divf e (broadcastInDim S4x2x4x4096x4096 ![0, 1, 2, 3, 4] bcast_S4x2x4x4096x1_S4x2x4x4096x4096_0_1_2_3_4
    (broadcastInDim S4x2x4x4096x1 ![0, 1, 2, 3] bcast_S4x2x4x4096_S4x2x4x4096x1_0_1_2_3
      (Host.reduceAdd e (constant S_ .f32 0x00000000#32) reducesTo_S4x2x4x4096x4096_S4x2x4x4096_d4 h_S_)))

/-- The shares' mean of the values. -/
def mixed (a : FVec Ideal S4x2x4x4096x4096 .f32) (p : FVec Ideal S4x4096x5632 .bf16) : FVec Ideal S4x4096x1024 .bf16 :=
  truncf .bf16 (shapeCast S4x4096x1024 (transpose S4x4096x2x4x128 [0, 4, 1, 3, 2]
    (Host.dotGeneral dot_S4x4096x2x128_S4x2x4x4096x4096_S4x2x128x4x4096_1_4_3_23_02_01 none
      (shapeCast S4x4096x2x128 (extractStridedSlice S4x4096x256 ![0, 0, 5376] (extf .f32 p bitsLt_bf16_f32)
        slices_S4x4096x5632_S4x4096x256_0_0_5376) shapeCasts_S4x4096x256_S4x4096x2x128) a)
    transposes_S4x2x128x4x4096_S4x4096x2x4x128_0_4_1_3_2) shapeCasts_S4x4096x2x4x128_S4x4096x1024) bitsLt_bf16_f32

/-- The reference's result. -/
def REF (p : FVec Ideal S4x4096x5632 .bf16) (w : FVec Ideal S1x128 .f32) (c s : FVec Ideal S4096x128 .f32)
    (k : FVec Ideal S4x4096x256 .bf16) : FVec Ideal S4x4096x1024 .bf16 :=
  mixed (shares (weights (scores (roped (normed (heads p) w) c s) k))) p

/-- A head's queries are 128 lanes of the projection. -/
theorem heads_apply (p : FVec Ideal S4x4096x5632 .bf16) (b : Fin 4) (t : Fin 4096) (h : Fin 8) (l : Fin 128) :
    heads p (ix4 b t h l) = p (ix3 b t ⟨4096 + (h * 128 + l), by omega⟩) := by
  pointwise [heads]

/-- RMSNorm at an index. -/
theorem normed_apply (x : FVec Ideal S4x4096x8x128 .f32) (w : FVec Ideal S1x128 .f32) (b : Fin 4) (t : Fin 4096) (h : Fin 8)
    (l : Fin 128) : normed x w (ix4 b t h l) = x (ix4 b t h l) * rms (fun i => x (ix4 b t h i)) * w (ix2 (0 : Fin 1) l) := by
  pointwise [normed, rms]

/-- Rotary positions at an index: the lane and its partner, with the partner's sign. -/
theorem roped_apply (y : FVec Ideal S4x4096x8x128 .f32) (c s : FVec Ideal S4096x128 .f32) (b : Fin 4) (t : Fin 4096)
    (h : Fin 8) (l : Fin 128) : roped y c s (ix4 b t h l)
      = y (ix4 b t h l) * c (ix2 t l) + sgn l * y (ix4 b t h (prt l)) * s (ix2 t l) := by
  pointwise [roped, spread, turned]
  refine congrArg (fun z => y (ix4 b t h l) * c (ix2 t l) + z * s (ix2 t l)) ?_
  by_cases h1 : (l : ℕ) < 32
  · rw [dif_pos h1, sgn_low (by omega), prt_low (by omega), neg_one_mul]
    exact congrArg (fun i => -y (ix4 b t h i)) (Fin.ext (Nat.add_comm _ _))
  rw [dif_neg h1]
  by_cases h2 : (l : ℕ) - 32 < 32
  · rw [dif_pos h2, sgn_high (by omega), prt_high (by omega), one_mul]
  rw [dif_neg h2]
  by_cases h3 : (l : ℕ) - 32 - 32 < 32
  · rw [dif_pos h3, sgn_low (by omega), prt_low (by omega), neg_one_mul]
    exact congrArg (fun i => -y (ix4 b t h i)) (Fin.ext (by show 96 + ((l : ℕ) - 32 - 32) = l + 32; omega))
  · rw [dif_neg h3, sgn_high (by omega), prt_high (by omega), one_mul]
    exact congrArg (fun i => y (ix4 b t h i)) (Fin.ext (by show 64 + ((l : ℕ) - 32 - 32 - 32) = l - 32; omega))

/-- A score: the inner product of a key and a query over the root of the width. -/
theorem scores_apply (q : FVec Ideal S4x4096x8x128 .f32) (k : FVec Ideal S4x4096x256 .bf16) (b : Fin 4) (g : Fin 2) (j : Fin 4)
    (t u : Fin 4096) : scores q k (ix5 b g j t u)
      = Ideal.div (∑ d : Fin 128, k (ix3 b u ⟨g * 128 + d, by omega⟩) * q (ix4 b t ⟨g * 4 + j, by omega⟩ d))
          (Ideal.sqrt (Ideal.ofBits .f32 0x43000000#32)) := by
  pointwise [scores]

/-- A weight: the exponential of the score less the largest of its row. -/
theorem weights_apply (s : FVec Ideal S4x2x4x4096x4096 .f32) (b : Fin 4) (g : Fin 2) (j : Fin 4)
    (t u : Fin 4096) : weights s (ix5 b g j t u) = Ideal.exp (s (ix5 b g j t u)
      - max (Ideal.ofBits .f32 0xFF800000#32) ((Finset.univ : Finset (Fin 4096)).fold max (Ideal.ofBits .f32 0xFF800000#32)
          (fun e => s (ix5 b g j t e)))) :=
  (expLess_apply s _ b g j t u).trans (congrArg (fun z => Ideal.exp (s (ix5 b g j t u) - z))
    ((floored_apply _ b g j t).trans (congrArg _ (rowMax_apply s b g j t))))

/-- A share: the weight over the sum of its row. -/
theorem shares_apply (e : FVec Ideal S4x2x4x4096x4096 .f32) (b : Fin 4) (g : Fin 2) (j : Fin 4)
    (t u : Fin 4096) : shares e (ix5 b g j t u) = Ideal.div (e (ix5 b g j t u)) (∑ i : Fin 4096, e (ix5 b g j t i)) := by
  pointwise [shares]

/-- A result: the mean of the values with the shares as weights. -/
theorem mixed_apply (a : FVec Ideal S4x2x4x4096x4096 .f32) (p : FVec Ideal S4x4096x5632 .bf16) (b : Fin 4) (t : Fin 4096)
    (n : Fin 1024) : mixed a p (ix3 b t n)
      = ∑ u : Fin 4096, p (ix3 b u ⟨5376 + ((n : ℕ) / 512 * 128 + n % 128), by omega⟩)
          * a (ix5 b ⟨n / 512, by omega⟩ ⟨n / 128 % 4, by omega⟩ t u) := by
  pointwise [mixed]

/-- The reference program's result is `REF` of its arguments. -/
theorem res_eq (m : (ℓ : Loc nD τ sig) → Buf (Elt Ideal) ℓ) (c : Dev nD) :
    Cert.AttnRefIdeal.Value.res_main_v57 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.AttnRefIdeal.RefValue

end
-- ==== Proof.AttnFrame.lean ====
/-
  The attention call: its frames and the reading of its one named constant.
-/
module

public import proofs.«01_k».proof.Defs
public import proofs.«01_k».proof.Proof.Gen.Attn.Frame
public import proofs.«01_k».proof.Proof.Gen.AttnIdeal.Frame
public import proofs.«01_k».proof.Proof.Gen.AttnRefIdeal.Run
public import Idealize.ShloMosaic.Lib.Quiescent

@[expose] public section

noncomputable section

open Idealize.ShloMosaic Idealize.SL.Sem

namespace Cert.Proof.AttnClaims

/-- The kernel as written runs, leaves its arguments, and ends quiescent. -/
theorem frame_k : Cert.quiescent_Attn := fun m g _ => Cert.Attn.Gen.frame m g
/-- So does the kernel read over the extended reals, -/
theorem frame_ki : Cert.quiescent_AttnIdeal := fun m g _ => Cert.AttnIdeal.Gen.frame m g
/-- and the reference read over the extended reals, which has no semaphore. -/
theorem frame_ri : Cert.quiescent_AttnRefIdeal := fun m g _ =>
  (θ_run Cert.AttnRefIdeal.defs _ _).mono (fun r h => ⟨fun c => (h c).2, sem_eq_zero_of_no_sems (by decide) r.2⟩)
    (Cert.AttnRefIdeal.Value.run (F := Ideal) m g)

/-- The one constant read exactly is the query scale with the change of base, `1 / (log 2 · √128)`; the kernel's word is
    that number rounded to the nearest. -/
theorem preserves : Cert.preserves_Attn_AttnIdeal :=
  IdealRules.named_const.statement Cert.AttnIdeal.κ "scale_log2e" .f32 0x3E0293EE#32
    (((Real.log 2)⁻¹ * (Real.sqrt 128)⁻¹ : ℝ) : EReal) rfl

end Cert.Proof.AttnClaims

end
-- ==== Proof.AttnValue.lean ====
/-
  The attention of a layer's attention block: RMSNorm and rotary positions of the queries, scores against the keys, softmax,
  mean of the values. The kernel multiplies weights and scale into the angles, takes powers of two, and divides once at the
  end; the reference normalises, rotates, scores, takes the softmax and weighs. The two agree where the norm's weights, the
  angles and the keys are finite: every score is then a real number.
-/
module

public import proofs.«01_k».proof.Proof.AttnKernel
public import proofs.«01_k».proof.Proof.AttnRef
public import proofs.«01_k».proof.Proof.AttnFrame
public import Idealize.ShloMosaic.Lib.Pipeline.ValueKit
public import Idealize.ShloMosaic.Lib.Quiescent
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen
open Cert.Proof.AttnMath

/-! ## The precondition, entry by entry -/

/-- The shape facts the printed precondition takes. -/
instance preFacts : Cert.Pre_finite_attention.Facts where
  bcast_S_S1x128 := by decide
  reducesTo_S1x128_S_d0_1 := by decide
  h_S_ := by decide
  bcast_S_S4096x128 := by decide
  reducesTo_S4096x128_S_d0_1 := by decide
  bitsLt_bf16_f32 := by decide
  bcast_S_S4x4096x256 := by decide
  reducesTo_S4x4096x256_S_d0_1_2 := by decide

/-- An extended real whose absolute value compares below infinity is a real number. -/
theorem real_of_abs_lt (x : EReal) (h : Ideal.cmp .olt (max x (-x)) (Ideal.ofBits .f32 0x7F800000#32) = 1#1) :
    ∃ r : ℝ, x = r := by
  rw [bits_inf] at h
  have h' : max x (-x) < ⊤ := by
    by_contra hn
    simp [Ideal.cmp, hn] at h
  obtain ⟨h1, h2⟩ := max_lt_iff.1 h'
  refine ⟨x.toReal, (EReal.coe_toReal h1.ne fun hb => ?_).symm⟩
  rw [hb] at h2
  exact absurd h2 (by simp)

/-- What the precondition says of the entries. -/
theorem pre_real {p : FVec Ideal S4x4096x5632 .bf16} {w : FVec Ideal S1x128 .f32} {c s : FVec Ideal S4096x128 .f32}
    {k : FVec Ideal S4x4096x256 .bf16} (h : Cert.Pre_finite_attention.fn (F := Ideal) p w c s k = fun _ => 1#1) :
    (∀ i, ∃ r : ℝ, w i = r) ∧ (∀ i, ∃ r : ℝ, c i = r) ∧ (∀ i, ∃ r : ℝ, s i = r) ∧ (∀ i, ∃ r : ℝ, k i = r) := by
  have e := congrFun h ix0
  dsimp only [Cert.Pre_finite_attention.fn, Cert.Pre_finite_attention.fn_part1] at e
  obtain ⟨e, e4⟩ := IntOp.andi_eq_one.1 e
  obtain ⟨e, e3⟩ := IntOp.andi_eq_one.1 e
  obtain ⟨e1, e2⟩ := IntOp.andi_eq_one.1 e
  refine ⟨fun i => real_of_abs_lt _ ?_, fun i => real_of_abs_lt _ ?_, fun i => real_of_abs_lt _ ?_, fun i => real_of_abs_lt _ ?_⟩
  · exact Host.reduce_andi_all _ _ _ _ _ e1 i
  · exact Host.reduce_andi_all _ _ _ _ _ e2 i
  · exact Host.reduce_andi_all _ _ _ _ _ e3 i
  · exact Host.reduce_andi_all _ _ _ _ _ e4 i

/-! ## The arithmetic -/

/-- A sum of reals is the sum of them as extended reals. -/
theorem coe_sum_real {n : ℕ} (f : Fin n → ℝ) : ((∑ i, f i : ℝ) : EReal) = ∑ i, (f i : EReal) := by
  classical
  induction (Finset.univ : Finset (Fin n)) using Finset.induction_on with
  | empty => simp
  | insert i S hi ih => rw [Finset.sum_insert hi, Finset.sum_insert hi, EReal.coe_add, ih]

/-- One entry: powers of two of the scaled scores give the reference's softmax over the scores divided by the root of the
    width, when the scores are real. -/
theorem entry {x : Fin 128 → EReal} {w c s : Fin 128 → EReal} {k : Fin 4096 → Fin 128 → EReal} (v : Fin 4096 → EReal)
    (hw : ∀ i, ∃ r : ℝ, w i = r) (hc : ∀ i, ∃ r : ℝ, c i = r) (hs : ∀ i, ∃ r : ℝ, s i = r) (hk : ∀ u i, ∃ r : ℝ, k u i = r) :
    attend2 (fun u => ∑ d : Fin 128, (scaleR * qrow x w c s d) * k u d) v
      = attend (fun u => Ideal.div (∑ d : Fin 128, k u d * qrow x w c s d) (Ideal.sqrt (Ideal.ofBits .f32 0x43000000#32))) v := by
  choose q hq using qrow_real x w c s hw hc hs
  choose kr hkr using hk
  have hroot : Real.sqrt 128 ≠ 0 := (Real.sqrt_pos.2 (by norm_num)).ne'
  have h1 : ∀ u, (∑ d : Fin 128, k u d * qrow x w c s d) = ((∑ d : Fin 128, kr u d * q d : ℝ) : EReal) := by
    intro u
    rw [coe_sum_real]
    exact Finset.sum_congr rfl fun d _ => by rw [hq, hkr, EReal.coe_mul]
  have h2 : ∀ u, Ideal.div (∑ d : Fin 128, k u d * qrow x w c s d) (Ideal.sqrt (Ideal.ofBits .f32 0x43000000#32))
      = (((∑ d : Fin 128, kr u d * q d) * (1 / Real.sqrt 128) : ℝ) : EReal) := by
    intro u
    rw [h1, bits_128, Ideal.sqrt_coe, if_neg (by norm_num), Ideal.div_coe hroot, EReal.coe_mul]
  have h3 : ∀ u, (∑ d : Fin 128, (scaleR * qrow x w c s d) * k u d)
      = ((Real.log 2)⁻¹ : ℝ) * (((∑ d : Fin 128, kr u d * q d) * (1 / Real.sqrt 128) : ℝ) : EReal) := by
    intro u
    rw [← EReal.coe_mul]
    have : (∑ d : Fin 128, ((scaleR : EReal) * qrow x w c s d) * k u d) = ((∑ d : Fin 128, scaleR * q d * kr u d : ℝ) : EReal) := by
      rw [coe_sum_real]
      exact Finset.sum_congr rfl fun d _ => by rw [hq, hkr, EReal.coe_mul, EReal.coe_mul]
    rw [this, Finset.sum_mul, Finset.mul_sum]
    refine congrArg _ (Finset.sum_congr rfl fun d _ => ?_)
    rw [scaleR, one_div]; ring
  simp only [h2, h3]
  exact attend2_eq _ v

open Cert.AttnRefIdeal.RefValue in
/-- The reference's rotated queries. -/
theorem query_apply (p : FVec Ideal S4x4096x5632 .bf16) (w : FVec Ideal S1x128 .f32) (c s : FVec Ideal S4096x128 .f32)
    (b : Fin 4) (t : Fin 4096) (h : Fin 8) (l : Fin 128) :
    roped (normed (heads p) w) c s (ix4 b t h l)
      = qrow (fun i => p (ix3 b t (⟨4096 + (h * 128 + i), by omega⟩ : Fin 5632))) (fun i => w (ix2 (0 : Fin 1) i))
          (fun i => c (ix2 t i)) (fun i => s (ix2 t i)) l := by
  refine (roped_apply _ c s b t h l).trans ?_
  simp only [normed_apply, heads_apply, qrow]

open Cert.AttnRefIdeal.RefValue in
/-- The reference's softmax of a row of scores. -/
theorem soft_apply (S : FVec Ideal Cert.AttnRefIdeal.S4x2x4x4096x4096 .f32) (b : Fin 4) (g : Fin 2) (j : Fin 4) (t u : Fin 4096) :
    shares (weights S) (ix5 b g j t u)
      = Ideal.div (Ideal.exp (S (ix5 b g j t u) - max ⊥ (Finset.univ.fold max ⊥ fun e : Fin 4096 => S (ix5 b g j t e))))
          (∑ i : Fin 4096, Ideal.exp (S (ix5 b g j t i) - max ⊥ (Finset.univ.fold max ⊥ fun e : Fin 4096 => S (ix5 b g j t e)))) := by
  have hw := fun i : Fin 4096 => weights_apply S b g j t i
  rw [bits_neg_inf] at hw
  exact (shares_apply _ b g j t u).trans (congrArg₂ Ideal.div (hw u) (Finset.sum_congr rfl fun i _ => hw i))

open Cert.AttnRefIdeal.RefValue in
/-- The reference's result at batch `b`, position `t`, lane `n`. -/
theorem ref_entry (p : FVec Ideal S4x4096x5632 .bf16) (w : FVec Ideal S1x128 .f32) (c s : FVec Ideal S4096x128 .f32)
    (k : FVec Ideal S4x4096x256 .bf16) (b : Fin 4) (t : Fin 4096) (n : Fin 1024) :
    REF p w c s k (ix3 b t n)
      = attend (fun u : Fin 4096 => Ideal.div (∑ d : Fin 128, k (ix3 b u (⟨(n : ℕ) / 512 * 128 + d, by omega⟩ : Fin 256))
          * qrow (fun i => p (ix3 b t (⟨4096 + ((n / 512 * 4 + n / 128 % 4) * 128 + i), by omega⟩ : Fin 5632)))
              (fun i => w (ix2 (0 : Fin 1) i)) (fun i => c (ix2 t i)) (fun i => s (ix2 t i)) d)
            (Ideal.sqrt (Ideal.ofBits .f32 0x43000000#32)))
          (fun u => p (ix3 b u (⟨5376 + ((n : ℕ) / 512 * 128 + n % 128), by omega⟩ : Fin 5632))) := by
  unfold REF
  refine (mixed_apply _ p b t n).trans ?_
  have hS := fun u : Fin 4096 => (scores_apply (roped (normed (heads p) w) c s) k b ⟨n / 512, by omega⟩ ⟨n / 128 % 4, by omega⟩ t u).trans
    (congrArg (Ideal.div · _) (Finset.sum_congr rfl fun d _ => congrArg (_ * ·) (query_apply p w c s b t _ d)))
  unfold attend
  refine Finset.sum_congr rfl fun u _ => congrArg (_ * ·) ((soft_apply _ b _ _ t u).trans ?_)
  simp only [hS]

/-! ## The kernel's result -/

variable (m : (ℓ : Loc nD τ sig) → Buf (Elt Ideal) ℓ) (ρ : Dev nD → PrngReg)

/-- The block of queries, whose window does not tile the array but is never cut. -/
theorem queries_apply (c : Dev nD) (t : Fin cfg0.N) (r : Fin 128) (n : Fin 1024) :
    X0_0 m c t (ix3 (0 : Fin 1) r n) = m ((c : Thread nD τ).loc main_arg0)
      (ix3 (⟨t.val / 32, by have := t.isLt; have e : cfg0.N = 128 := by decide +kernel
                            omega⟩ : Fin 4) (⟨t.val % 32 * 128 + r, by omega⟩ : Fin 4096) (⟨4096 + n, by omega⟩ : Fin 5632)) := by
  unfold X0_0 Pipeline.Window.fill
  rw [dif_pos (moved0_0 t _)]
  blk_point [iblk, V, idx t]

/-- What the body leaves at an entry of its block is the reference's value where the entry sits in the array. -/
theorem cell_eq (c : Dev nD) (t : Fin cfg0.N) (b : Fin 4) (q : Fin 4096) (r : Fin 128) (n : Fin 1024)
    (hb : (b : ℕ) = t.val / 32) (hq : (q : ℕ) = t.val % 32 * 128 + r)
    (h : Cert.Pre_finite_attention.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    cell m c t ⟨(n : ℕ) / 128, by omega⟩ r ⟨(n : ℕ) % 128, by omega⟩
      = Cert.AttnRefIdeal.RefValue.REF (m ((c : Thread nD τ).loc main_arg0)) (m ((c : Thread nD τ).loc main_arg1))
          (m ((c : Thread nD τ).loc main_arg2)) (m ((c : Thread nD τ).loc main_arg3)) (m ((c : Thread nD τ).loc main_arg4)) (ix3 b q n) := by
  obtain ⟨hw, hc, hs, hk⟩ := pre_real h
  have e1 : ∀ i : Fin 128, iblk m c 1 t (ix2 (0 : Fin 1) i) = m ((c : Thread nD τ).loc main_arg1) (ix2 (0 : Fin 1) i) := by
    intro i; blk_point [iblk, V, idx t]
  have e2 : ∀ i : Fin 128, iblk m c 2 t (ix2 r i) = m ((c : Thread nD τ).loc main_arg2) (ix2 q i) := by
    intro i; blk_point [iblk, V, idx t]
  have e3 : ∀ i : Fin 128, iblk m c 3 t (ix2 r i) = m ((c : Thread nD τ).loc main_arg3) (ix2 q i) := by
    intro i; blk_point [iblk, V, idx t]
  have e4 : ∀ (u : Fin 4096) (d : Fin 128), iblk m c 4 t (ix3 (0 : Fin 1) u (⟨128 * ((n : ℕ) / 128 / 4) + d, by omega⟩ : Fin 256))
      = m ((c : Thread nD τ).loc main_arg4) (ix3 b u (⟨(n : ℕ) / 512 * 128 + d, by omega⟩ : Fin 256)) := by
    intro u d; blk_point [iblk, V, idx t]
  have e5 : ∀ u : Fin 4096, iblk m c 5 t (ix3 (0 : Fin 1) u (⟨128 * ((n : ℕ) / 128 / 4) + n % 128, by omega⟩ : Fin 256))
      = m ((c : Thread nD τ).loc main_arg0) (ix3 b u (⟨5376 + ((n : ℕ) / 512 * 128 + n % 128), by omega⟩ : Fin 5632)) := by
    intro u; blk_point [iblk, V, idx t]
  have e0 : ∀ i : Fin 128, X0_0 m c t (ix3 (0 : Fin 1) r (⟨128 * ((n : ℕ) / 128) + i, by omega⟩ : Fin 1024))
      = m ((c : Thread nD τ).loc main_arg0)
        (ix3 b q (⟨4096 + (((n : ℕ) / 512 * 4 + n / 128 % 4) * 128 + i), by omega⟩ : Fin 5632)) := by
    intro i; refine (queries_apply m c t r _).trans ?_; blk_ext
  unfold cell
  simp only [e0, e1, e2, e3, e4, e5]
  exact (entry _ (fun i => hw _) (fun i => hc _) (fun i => hs _) (fun u i => hk _)).trans (ref_entry _ _ _ _ _ b q n).symm

/-- The result array after the run is the reference's function of the arguments, where the precondition holds. -/
theorem final (c : Dev nD)
    (h : Cert.Pre_finite_attention.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (dats m 0 c).arrAt 6 (cfgs 0).N
    = Cert.AttnRefIdeal.RefValue.REF (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (point m c t y).trans ?_
  have hN : t.val < 128 := lt_of_lt_of_eq t.isLt (by decide +kernel)
  refine (cell_eq m c t ⟨t.val / 32, by omega⟩ ⟨t.val % 32 * 128 + (y 1 : ℕ), by have : (y 1 : ℕ) < 128 := (y 1).isLt; omega⟩
    (y 1) (y 2) rfl rfl h).trans ?_
  blk_ext [idx t]

end Cert.AttnIdeal.RefValue

/-! ## The claims about the attention under the precondition -/

namespace Cert.Proof.AttnClaims

/-- The frame of the kernel over the extended reals, stated where the precondition holds. -/
theorem frame_ki_pre : Cert.quiescent_AttnIdeal_pre_finite_attention := fun m g _ => frame_ki m g trivial
/-- The same for the reference. -/
theorem frame_ri_pre : Cert.quiescent_AttnRefIdeal_pre_finite_attention := fun m g _ => frame_ri m g trivial

/-- Over the extended reals the kernel's result is the reference's, element by element, where the norm's weights, the angles
    and the keys are finite. -/
theorem algebraic : Cert.algebraic_AttnIdeal_AttnRefIdeal_pre_finite_attention := by
  pair_intro
  · run_from Cert.AttnIdeal.Gen.run_main m g
  · run_from Cert.AttnRefIdeal.Value.run m' g'
    obtain ⟨a0, a1, a2, a3, a4⟩ := hagree c
    rw [Cert.AttnRefIdeal.RefValue.res_eq, a0, a1, a2, a3, a4]
    exact (Cert.AttnIdeal.RefValue.final m c (hpre c)).symm

end Cert.Proof.AttnClaims

end
-- ==== Proof.InProjFrame.lean ====
/-
  The input projection: what one call leaves and that it runs.

  The grid is (batch, row tile, column tile), two column tiles per row tile, so the points come in pairs. The first point of
  a pair normalises the row tile into a scratch, writes the gates, and multiplies the scratch by the first column tile; the
  second multiplies the same scratch by the second column tile and writes no gate: the gates' block goes back to its array
  after the second point with what the first left in it. The module states these contents directly — the scratch and the
  gates of a point are functions of the blocks of the first point of its pair — and proves the body's triple from them.
-/
module

public import proofs.«01_k».proof.Defs
public import proofs.«01_k».proof.Proof.Gen.InProj.Skeleton
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import proofs.«01_k».proof.Proof.Gen.On_gate_lanes
public import Idealize.ShloMosaic.Lib.WholeRead
public import Idealize.ShloMosaic.Lib.Pipeline.ValueKit
public import Idealize.ShloMosaic.Lib.Quiescent

@[expose] public section

set_option maxRecDepth 16384

noncomputable section

namespace Cert.InProj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The gates of a row tile, from its blocks. -/
def gatesOf (x0 : Vec F S1x512x2048 .f32) (x1 : Vec F S1x2048 .f32) (x2 x3 : Vec F S1x1x2048 .f32)
    (x5 : Vec F S1x2048x128 .bf16) (x6 x7 : Vec F S1x128 .f32) : Vec F S1x512x128 .f32 :=
  k0_pay1 (k0_pay5 x0 x1 x2 x3 x5) k0_pay6 k0_pay7 x6 x7

/-- A store of a whole buffer at offset zero leaves its payload. -/
theorem read_stored {s : Shape} {e : EltTy} (v : View sig .tc .vmem s e) (f : v.ty.Contents (Elt F)) {off : Fin s.rank → ℕ}
    (h : ∀ a, off a = 0) (inb : ∀ a, off a + s.size a ≤ s.size a) (w : s.Idx → Elt F e) :
    v.read (Elt F) (v.writes (Elt F) f [⟨Rect.unit off s.size inb, w⟩]) = w :=
  (View.read_writes_eq_canon v f _ fun y => ⟨_, List.mem_singleton_self _, View.mem_set_unit_zero (funext h) inb y⟩).trans
    (View.canon_unit_zero (funext h) inb w)

/-- A load of a whole buffer at offset zero reads its contents. -/
theorem read_loaded {s : Shape} {e : EltTy} {M : Memref sig .tc .vmem s e} (hM : M.IsWhole) (X : s.Idx → Elt F e)
    {off : Fin s.rank → ℕ} (h : ∀ a, off a = 0) (inb : ∀ a, off a + s.size a ≤ s.size a) :
    M.view.readAt (Elt F) (Rect.unit off s.size inb).toLoadRect (hM.unread X) = X := by
  have := View.ld_unit_zero (Val := Elt F) (funext h) inb X
  funext x
  exact (hM.readAt_unread X _ x).trans (congrFun this x)

/-- The condition of the body's branch. -/
abbrev first (i : grid0.Coords) : Prop := k0_cond1 i = 1#1

set_option maxHeartbeats 4000000 in
/-- The body at the first point of a pair: from the blocks of its inputs it leaves the normalised tile in the scratch, its
    product with the column tile, and the gates. -/
theorem body_first (c : Dev nD) (i : grid0.Coords) (hi : first i)
    (a0 : Memref sig .tc .vmem S1x512x2048 .f32) (h0 : a0.IsWhole) (a1 : Memref sig .tc .vmem S1x2048 .f32) (h1 : a1.IsWhole)
    (a2 : Memref sig .tc .vmem S1x1x2048 .f32) (h2 : a2.IsWhole) (a3 : Memref sig .tc .vmem S1x1x2048 .f32) (h3 : a3.IsWhole)
    (a4 : Memref sig .tc .vmem S1x2048x2816 .bf16) (h4 : a4.IsWhole) (a5 : Memref sig .tc .vmem S1x2048x128 .bf16) (h5 : a5.IsWhole)
    (a6 : Memref sig .tc .vmem S1x128 .f32) (h6 : a6.IsWhole) (a7 : Memref sig .tc .vmem S1x128 .f32) (h7 : a7.IsWhole)
    (a8 : Memref sig .tc .vmem S1x512x2816 .bf16) (h8 : a8.IsWhole) (a9 : Memref sig .tc .vmem S1x512x128 .f32) (h9 : a9.IsWhole)
    (sM : Memref sig .tc .vmem S512x2048 .bf16) (hs : sM.IsWhole)
    (x0 : Vec F S1x512x2048 .f32) (x1 : Vec F S1x2048 .f32) (x2 x3 : Vec F S1x1x2048 .f32) (x4 : Vec F S1x2048x2816 .bf16)
    (x5 : Vec F S1x2048x128 .bf16) (x6 x7 : Vec F S1x128 .f32) (E : Set ℕ) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (∃ d, owns (c : Thread nD τ) sM fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare (k0_pay2 (k0_pay4 x0 x1 x2 x3) x4)
            ∗ owns (c : Thread nD τ) a9 fullShare (gatesOf x0 x1 x2 x3 x5 x6 x7)
            ∗ owns (c : Thread nD τ) sM fullShare (k0_pay4 x0 x1 x2 x3)) -∗ K ⟨⟩))
      ⊢ wp frame (wpE (defs₀ (F := F)) Variants.none c none) E
          (cc0__in_proj_kernel i a0 h0 a1 h1 a2 h2 a3 h3 a4 h4 a5 h5 a6 h6 a7 h7 a8 h8 a9 h9 sM hs) K := by
  simp only [cc0__in_proj_kernel_eq_skeleton]; unfold cc0__in_proj_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%ds, %fs, -, HS⟩, Hk⟩
  obtain rfl := h0.eq_unread e0; obtain rfl := h1.eq_unread e1; obtain rfl := h2.eq_unread e2; obtain rfl := h3.eq_unread e3
  obtain rfl := h4.eq_unread e4; obtain rfl := h5.eq_unread e5; obtain rfl := h6.eq_unread e6; obtain rfl := h7.eq_unread e7
  sl_exec (disch := first | sl_exact hi)
  sl_step
  iapply Hk
  have l0 := read_loaded h0 x0 (off := ![0, 0, 0]) (by decide) inb_S1x512x2048_S1x512x2048_0_0_0
  have l1 := read_loaded h1 x1 (off := ![0, 0]) (by decide) inb_S1x2048_S1x2048_0_0
  have l2 := read_loaded h2 x2 (off := ![0, 0, 0]) (by decide) inb_S1x1x2048_S1x1x2048_0_0_0
  have l3 := read_loaded h3 x3 (off := ![0, 0, 0]) (by decide) inb_S1x1x2048_S1x1x2048_0_0_0
  have l4 := read_loaded h4 x4 (off := ![0, 0, 0]) (by decide) inb_S1x2048x2816_S1x2048x2816_0_0_0
  have l5 := read_loaded h5 x5 (off := ![0, 0, 0]) (by decide) inb_S1x2048x128_S1x2048x128_0_0_0
  have l6 := read_loaded h6 x6 (off := ![0, 0]) (by decide) inb_S1x128_S1x128_0_0
  have l7 := read_loaded h7 x7 (off := ![0, 0]) (by decide) inb_S1x128_S1x128_0_0
  isplitl [H0]
  · iexists _; isplitr
    · ipureintro; exact h0.read_unread _
    iexact H0
  isplitl [H1]
  · iexists _; isplitr
    · ipureintro; exact h1.read_unread _
    iexact H1
  isplitl [H2]
  · iexists _; isplitr
    · ipureintro; exact h2.read_unread _
    iexact H2
  isplitl [H3]
  · iexists _; isplitr
    · ipureintro; exact h3.read_unread _
    iexact H3
  isplitl [H4]
  · iexists _; isplitr
    · ipureintro; exact h4.read_unread _
    iexact H4
  isplitl [H5]
  · iexists _; isplitr
    · ipureintro; exact h5.read_unread _
    iexact H5
  isplitl [H6]
  · iexists _; isplitr
    · ipureintro; exact h6.read_unread _
    iexact H6
  isplitl [H7]
  · iexists _; isplitr
    · ipureintro; exact h7.read_unread _
    iexact H7
  isplitl [H8]
  · iexists _; isplitr
    swap; · iexact H8
    · ipureintro
      refine (read_stored a8.view f8 (off := ![0, 0, 0]) (by decide) _ _).trans ?_
      refine congr (congrArg k0_pay2 ?_) l4
      unfold body_first.sl.v3 body_first.sl.HS_1
      refine (View.readCov_unit_zero sM.view (funext (by decide)) _ _).trans ?_
      exact congr (congr (congr (congrArg k0_pay4 l0) l1) l2) l3
  isplitl [H9]
  · iexists _; isplitr
    swap; · iexact H9
    · ipureintro
      refine (read_stored a9.view f9 (off := ![0, 0, 0]) (by decide) _ _).trans ?_
      unfold gatesOf
      exact congr (congr (congrArg (fun z => k0_pay1 z k0_pay6 k0_pay7)
        (congr (congr (congr (congr (congrArg k0_pay5 l0) l1) l2) l3) l5)) l6) l7
  · iexists _; isplitr
    swap; · iexact HS
    ipureintro
    unfold body_first.sl.HS_1
    refine (read_stored sM.view fs (off := ![0, 0]) (by decide) _ _).trans ?_
    exact congr (congr (congr (congrArg k0_pay4 l0) l1) l2) l3

set_option maxHeartbeats 4000000 in
/-- The body at the second point of a pair: it multiplies what the scratch holds by the column tile, and leaves the rest as it
    was. -/
theorem body_second (c : Dev nD) (i : grid0.Coords) (hi : ¬ first i)
    (a0 : Memref sig .tc .vmem S1x512x2048 .f32) (h0 : a0.IsWhole) (a1 : Memref sig .tc .vmem S1x2048 .f32) (h1 : a1.IsWhole)
    (a2 : Memref sig .tc .vmem S1x1x2048 .f32) (h2 : a2.IsWhole) (a3 : Memref sig .tc .vmem S1x1x2048 .f32) (h3 : a3.IsWhole)
    (a4 : Memref sig .tc .vmem S1x2048x2816 .bf16) (h4 : a4.IsWhole) (a5 : Memref sig .tc .vmem S1x2048x128 .bf16) (h5 : a5.IsWhole)
    (a6 : Memref sig .tc .vmem S1x128 .f32) (h6 : a6.IsWhole) (a7 : Memref sig .tc .vmem S1x128 .f32) (h7 : a7.IsWhole)
    (a8 : Memref sig .tc .vmem S1x512x2816 .bf16) (h8 : a8.IsWhole) (a9 : Memref sig .tc .vmem S1x512x128 .f32) (h9 : a9.IsWhole)
    (sM : Memref sig .tc .vmem S512x2048 .bf16) (hs : sM.IsWhole)
    (x4 : Vec F S1x2048x2816 .bf16) (y : Vec F S512x2048 .bf16) (E : Set ℕ) (K : PUnit → sProp 𝕄) :
    iprop(owns (c : Thread nD τ) a4 fullShare x4 ∗ (∃ d, owns (c : Thread nD τ) a8 fullShare d) ∗ owns (c : Thread nD τ) sM fullShare y
        ∗ (iprop(owns (c : Thread nD τ) a4 fullShare x4 ∗ owns (c : Thread nD τ) a8 fullShare (k0_pay2 y x4)
            ∗ owns (c : Thread nD τ) sM fullShare y) -∗ K ⟨⟩))
      ⊢ wp frame (wpE (defs₀ (F := F)) Variants.none c none) E
          (cc0__in_proj_kernel i a0 h0 a1 h1 a2 h2 a3 h3 a4 h4 a5 h5 a6 h6 a7 h7 a8 h8 a9 h9 sM hs) K := by
  simp only [cc0__in_proj_kernel_eq_skeleton]; unfold cc0__in_proj_kernel_skel
  simp only [k0_part1_eq_skeleton]; unfold k0_part1_skel
  unfold owns
  iintro ⟨⟨%f4, %e4, H4⟩, ⟨%d8, %f8, -, H8⟩, ⟨%fs, %es, HS⟩, Hk⟩
  obtain rfl := h4.eq_unread e4; obtain rfl := hs.eq_unread es
  sl_exec (disch := first | sl_exact hi)
  sl_step
  iapply Hk
  have l4 := read_loaded h4 x4 (off := ![0, 0, 0]) (by decide) inb_S1x2048x2816_S1x2048x2816_0_0_0
  have ls := read_loaded hs y (off := ![0, 0]) (by decide) inb_S512x2048_S512x2048_0_0
  isplitl [H4]
  · iexists _; isplitr
    · ipureintro; exact h4.read_unread _
    iexact H4
  isplitl [H8]
  · iexists _; isplitr
    swap; · iexact H8
    · ipureintro
      refine (read_stored a8.view f8 (off := ![0, 0, 0]) (by decide) _ _).trans ?_
      exact congr (congrArg k0_pay2 ls) l4
  · iexists _; isplitr
    · ipureintro; exact hs.read_unread _
    iexact HS

/-! ## The points, pairwise -/

/-- The branch is taken at the even points. -/
theorem first_iff (t : Fin cfg0.N) : first (grid0.coords t) ↔ t.val % 2 = 0 := by
  have ht : t.val < 64 := Nat.lt_of_lt_of_eq t.isLt N_0
  have e2 : (grid0.coords t 2).val = t.val / 1 % 2 := Pipeline.Grid.coords_val t 2 (by decide) rfl
  simp only [first, k0_cond1, e2]
  word_cmp

/-- At the even points the gates' window is in use, -/
theorem gates_live : ∀ t : Fin cfg0.N, t.val % 2 = 0 → cfg0.idle 9 (grid0.coords t) = false := by decide +kernel
/-- and at the odd points it is idle. -/
theorem gates_idle : ∀ t : Fin cfg0.N, ¬ t.val % 2 = 0 → cfg0.idle 9 (grid0.coords t) = true := by decide +kernel
/-- The gates' window is an output: nothing is fetched into it. -/
theorem gates_unfetched : ∀ t : Fin cfg0.N, (cfg0.win 9).fetch t = false := fun _ => rfl

/-- The first point of a point's pair. -/
def lead (t : Fin cfg0.N) : Fin cfg0.N := ⟨t.val - t.val % 2, Nat.lt_of_le_of_lt (Nat.sub_le _ _) t.isLt⟩

theorem lead_even (t : Fin cfg0.N) (h : t.val % 2 = 0) : lead t = t := Fin.ext (by simp only [lead]; omega)

theorem lead_odd (t : Fin cfg0.N) (h : ¬ t.val % 2 = 0) :
    lead ⟨t.val - 1, Nat.lt_of_le_of_lt (Nat.sub_le _ _) t.isLt⟩ = lead t := Fin.ext (by simp only [lead]; omega)

variable (m : (ℓ : Loc nD τ sig) → Buf (Elt F) ℓ) (ρ : Dev nD → PrngReg)

/-- The normalised row tile in the scratch after a point. -/
def scr (c : Dev nD) (t : Fin cfg0.N) : Vec F S512x2048 .bf16 :=
  k0_pay4 (iblk m c 0 (lead t)) (iblk m c 1 (lead t)) (iblk m c 2 (lead t)) (iblk m c 3 (lead t))

/-- The block of the projection a point writes. -/
def tile (c : Dev nD) (t : Fin cfg0.N) : Vec F S1x512x2816 .bf16 := k0_pay2 (scr m c t) (iblk m c 4 t)

/-- The gates' block after a point. -/
def gates (c : Dev nD) (t : Fin cfg0.N) : Vec F S1x512x128 .f32 :=
  gatesOf (iblk m c 0 (lead t)) (iblk m c 1 (lead t)) (iblk m c 2 (lead t)) (iblk m c 3 (lead t)) (iblk m c 5 (lead t))
    (iblk m c 6 (lead t)) (iblk m c 7 (lead t))

/-- The scratch as a memref. -/
abbrev scM : Memref sig .tc .vmem S512x2048 .bf16 := Memref.whole cc0_scratch0

/-- What the launch hands over: the scratch at some contents and the generator register at some state. -/
theorem handed_eq (c : Dev nD) : (Pipeline.ΦA spec0 c : sProp 𝕄)
    = iprop((∃ d, owns (c : Thread nD τ) scM fullShare d) ∗ (∃ r, prngReg c r)) := by
  unfold Pipeline.ΦA; rw [scopedRest0_eq]; simp only [scM, owns_whole]; try rfl

/-- What holds between points: before the first, what the launch hands over; after a point, the scratch at that point's
    normalised tile and the generator register at some state. -/
def inv (c : Dev nD) : (n : ℕ) → n ≤ cfg0.N → sProp 𝕄
  | 0, _ => Pipeline.ΦA spec0 c
  | n + 1, hn => iprop(owns (c : Thread nD τ) scM fullShare (scr m c ⟨n, hn⟩) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(owns (c : Thread nD τ) scM fullShare (scr m c ⟨n - 1, by omega⟩) ∗ (∃ r, prngReg c r)) := by
  cases n with
  | zero => exact absurd rfl hz
  | succ n => rfl

/-- What the pipeline leaves, window by window: the inputs at their blocks, the projection at its tile, the gates at the
    pair's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tile m c t
    | ⟨9, _⟩ => gates m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = tile m c t := by dsimp only [dats]
theorem after_9 (c : Dev nD) (t : Fin cfg0.N) : (dats m 0 c).after 9 t = gates m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Before the second point of a pair the gates' block holds what the first left. -/
theorem before_9 (c : Dev nD) (t : Fin cfg0.N) (h : ¬ t.val % 2 = 0) (d) : (dats m 0 c).before 9 t d = gates m c t := by
  have hz : t.val ≠ 0 := fun e => h (by rw [e])
  have hl : t.val - 1 < cfg0.N := Nat.lt_of_le_of_lt (Nat.sub_le _ _) t.isLt
  refine ((dats m 0 c).before_of_pos 9 t hz (gates_unfetched t) d).trans ?_
  rw [if_neg fun e => absurd ((flush0_9 _).mp e) (by simp only; omega)]
  unfold Dat.left
  rw [gates_live ⟨t.val - 1, hl⟩ (by simp only; omega)]
  unfold Dat.kept
  rw [after_9]
  refine Eq.trans ?_ (congrArg (fun u => gatesOf (iblk m c 0 u) (iblk m c 1 u) (iblk m c 2 u) (iblk m c 3 u) (iblk m c 5 u)
    (iblk m c 6 u) (iblk m c 7 u)) (lead_odd t h))
  exact Window.fill_cut (cfg0.win 9) (cfg0.grid.coords ⟨t.val - 1, hl⟩) (gates m c ⟨t.val - 1, hl⟩)

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A window in use is left at what the data says. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- So is an idle one at a point that writes it back. -/
theorem leaves_flush (c : Dev nD) (w : Fin cfg0.W) (t : Fin cfg0.N) (h : cfg0.idle w (grid0.coords t) = true)
    (hf : (cfg0.win w).flush t = true) :
    (dats m 0 c).leavesExact w t
      = owns (c : Thread nD τ) ((cfg0.win w).stage (cfg0.slots t w)) fullShare ((dats m 0 c).after w t) := by
  unfold Dat.leavesExact; rw [h]; simp only [hf]

/-- The gates' window is left at the pair's gates at either point. -/
theorem leaves_9 (c : Dev nD) (t : Fin cfg0.N) :
    (dats m 0 c).leavesExact 9 t = owns (c : Thread nD τ) (st0_9 t) fullShare (gates m c t) := by
  by_cases h : t.val % 2 = 0
  · exact (leaves_live m c 9 t (gates_live t h)).trans (by rw [after_9])
  · exact (leaves_flush m c 9 t (gates_idle t h) ((flush0_9 t).mpr (by omega))).trans (by rw [after_9])

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop(owns (c : Thread nD τ) scM fullShare (scr m c t) ∗ (∃ r, prngReg c r)) from rfl]
  rw [show (dats m 0 c).Φ t.castSucc = inv m c t.val (Nat.le_of_lt t.isLt) from rfl]
  rw [leaves_9 m c t]
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl]
  rw [after_0 m c t, after_1 m c t, after_2 m c t, after_3 m c t, after_4 m c t, after_5 m c t, after_6 m c t, after_7 m c t, after_8 m c t]
  by_cases h : t.val % 2 = 0
  · have hs : inv m c t.val (Nat.le_of_lt t.isLt) ⊢ iprop((∃ d, owns (c : Thread nD τ) scM fullShare d) ∗ (∃ r, prngReg c r)) := by
      by_cases hz : t.val = 0
      · rw [inv_zero m c _ _ hz, handed_eq]
      · rw [inv_pos m c _ _ hz]
        iintro ⟨HS, Hg⟩
        isplitl [HS]
        · iexists _; iexact HS
        iexact Hg
    have e8 : tile m c t = k0_pay2 (k0_pay4 (iblk m c 0 t) (iblk m c 1 t) (iblk m c 2 t) (iblk m c 3 t)) (iblk m c 4 t) := by
      unfold tile scr; rw [lead_even t h]
    have e9 : gates m c t = gatesOf (iblk m c 0 t) (iblk m c 1 t) (iblk m c 2 t) (iblk m c 3 t) (iblk m c 5 t) (iblk m c 6 t)
        (iblk m c 7 t) := by
      unfold gates; rw [lead_even t h]
    have es : scr m c t = k0_pay4 (iblk m c 0 t) (iblk m c 1 t) (iblk m c 2 t) (iblk m c 3 t) := by
      unfold scr; rw [lead_even t h]
    rw [e8, e9, es]
    refine (Idealize.SL.BI.sep_mono_l hs).trans ?_
    change iprop(iprop((∃ d, owns (c : Thread nD τ) scM fullShare d) ∗ (∃ r, prngReg c r)) ∗ _) ⊢ _
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) ((first_iff t).mpr h) _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val ≠ 0 := fun e => h (by rw [e])
    have es : scr m c ⟨t.val - 1, Nat.lt_of_le_of_lt (Nat.sub_le _ _) t.isLt⟩ = scr m c t := by
      unfold scr; rw [lead_odd t h]
    have e8 : tile m c t = k0_pay2 (scr m c t) (iblk m c 4 t) := rfl
    rw [inv_pos m c _ _ hz, e8, es]
    simp only [before_9 m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_second c (grid0.coords t) (fun e => h ((first_iff t).mp e)) _ _ _ _ _ _ _ _ _ _ _ _ _ _ _ _ _ _ _ _ _ _
      (iblk m c 4 t) (scr m c t) Set.univ _)
    isplitl [H4]; · iexact H4
    isplitl [H8]; · iexists _; iexact H8
    isplitl [HS]; · iexact HS
    iintro ⟨H4, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what holds before the first point, -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- and what holds after the last point gives it back. -/
theorem hout (c : Dev nD) : (dats m 0 c).Φ (Fin.last cfg0.N) ⊢ Pipeline.ΦA spec0 c := by
  have hn : (Fin.last cfg0.N).val ≠ 0 := by rw [Fin.val_last]; have : cfg0.N = 64 := N_0; omega
  rw [show (dats m 0 c).Φ (Fin.last cfg0.N) = inv m c (Fin.last cfg0.N).val (Nat.le_of_lt_succ (Fin.last cfg0.N).isLt) from rfl,
    inv_pos m c _ _ hn, handed_eq]
  iintro ⟨HS, Hg⟩
  isplitl [HS]
  · iexists _; iexact HS
  iexact Hg

/-! ## The run -/

-- the launch theorem's implicit arguments are found by unifying its conclusion with the statement
set_option backward.isDefEq.respectTransparency.types false in
/-- The call runs; at every final state the arrays are at what the pipeline's data says and every counter is zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The call runs, with the arrays at what the pipeline's data says. -/
theorem run_main : θ_run defs (onTc (τ := τ) (main (F := F))) (s₀ m ρ) (Pipeline.FramePost cfgs (dats m) 0 (V m)) :=
  (θ_run defs _ _).mono (fun _ h => h.1) (run_main_quiescent m ρ)

/-- The call runs, leaves its arguments unchanged, and ends with every counter at zero. -/
theorem frame_call : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.InProj.Gen

namespace Cert.Proof.InProjClaims

open Idealize.ShloMosaic Idealize.SL Idealize.SL.Sem

variable {F : FTy → Type} [FloatOps F]

/-! ## The reading over the extended reals is the same program -/

/-- The program and its reading over the extended reals have the same body table, -/
theorem table_eq : Cert.InProj.defs₀ (F := F) = Cert.InProjIdeal.defs₀ (F := F) := by
  unfold Cert.InProj.defs₀ Cert.InProjIdeal.defs₀
  refine congrArg Defs.onTc ?_
  funext l a
  obtain ⟨l, hl⟩ := l
  cases l with
  | zero => rfl
  | succ n => exact absurd hl (by omega)

/-- and the same table with the launch. -/
theorem defs_eq : Cert.InProj.defs (F := F) = Cert.InProjIdeal.defs (F := F) :=
  congrArg (Pipeline.defs Cert.InProj.pcfgs) table_eq

/-- The kernel read over the extended reals runs, with its arrays at what the pipeline's data says. -/
theorem run_ki (m : (ℓ : Loc Cert.InProj.nD Cert.InProj.τ Cert.InProj.sig) → Buf (Elt Ideal) ℓ) (ρ : Dev Cert.InProj.nD → PrngReg) :
    θ_run (Cert.InProjIdeal.defs (F := Ideal)) (onTc (τ := Cert.InProj.τ) (Cert.InProjIdeal.main (F := Ideal)))
      ⟨m, fun _ => 0, ρ⟩ (Pipeline.FramePost Cert.InProj.cfgs (Cert.InProj.Gen.dats m) 0 (Cert.InProj.Gen.V m)) := by
  have h := Cert.InProj.Gen.run_main (F := Ideal) m ρ
  rw [defs_eq] at h
  exact h

/-! ## The claims -/

/-- The kernel as written runs, leaves its arguments, and ends quiescent. -/
theorem frame_k : Cert.quiescent_InProj := fun m g _ => Cert.InProj.Gen.frame_call m g
/-- So does the kernel read over the extended reals: it is the same program, its elements read as extended reals, -/
theorem frame_ki : Cert.quiescent_InProjIdeal := fun m g _ => by
  have h := Cert.InProj.Gen.frame_call (F := Ideal) m g
  rw [defs_eq] at h
  exact h
/-- and the reference read over the extended reals, which has no semaphore. -/
theorem frame_ri : Cert.quiescent_InProjRefIdeal := fun m g _ =>
  (θ_run Cert.InProjRefIdeal.defs _ _).mono (fun r h => ⟨fun c => (h c).2.2, sem_eq_zero_of_no_sems (by decide) r.2⟩)
    (Cert.InProjRefIdeal.Value.run (F := Ideal) m g)
/-- The exact reading of the kernel replaces nothing in it. -/
theorem preserves : Cert.preserves_InProj_InProjIdeal := trivial

end Cert.Proof.InProjClaims

end
-- ==== Proof.MlpValue.lean ====
/-
  The feed-forward half of a layer: `x + g ∘ (relu(h · U)² · D)` with `h = rmsnorm(x) ∘ w ∘ (1 + s) + b`. The kernel keeps
  the normalised row tile `h` and an accumulator in scratch memory and walks the 8192 hidden columns in eight blocks of
  1024, adding each block's contribution; the reference contracts all 8192 columns at once. Over the extended reals a sum
  over 8192 positions is the sum of the eight partial sums in any order, so the two agree for all arguments.
-/
module

public import proofs.«01_k».proof.Defs
public import proofs.«01_k».proof.Proof.Gen.Mlp.Frame
public import proofs.«01_k».proof.Proof.Gen.MlpIdeal.Frame
public import proofs.«01_k».proof.Proof.Gen.MlpRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The reference's term -/

namespace Cert.MlpRefIdeal.RefValue

open Cert.MlpRefIdeal Cert.MlpRefIdeal.Gen

/-- The reference's normalised and modulated input: `x · rsqrt(mean x² + ε) · w · (1 + s) + b`. -/
def normed (x : FVec Ideal S4x4096x2048 .f32) (nw : FVec Ideal S1x2048 .f32) (sc sh : FVec Ideal S4x1x2048 .f32) :
    FVec Ideal S4x4096x2048 .f32 :=
  addf (mulf (mulf (mulf x (broadcastInDim S4x4096x2048 ![0, 1, 2] bcast_S4x4096x1_S4x4096x2048_0_1_2
      (Host.rsqrt (addf (Host.divf (broadcastInDim S4x4096x1 ![0, 1] bcast_S4x4096_S4x4096x1_0_1
          (Host.reduceAdd (mulf x x) (constant S_ .f32 0x00000000#32) reducesTo_S4x4096x2048_S4x4096_d2 h_S_))
        (broadcastInDim S4x4096x1 ![] bcast_S_S4x4096x1 (constant S_ .f32 0x45000000#32)))
        (broadcastInDim S4x4096x1 ![] bcast_S_S4x4096x1 (constant S_ .f32 0x358637BD#32))))))
      (broadcastInDim S4x4096x2048 ![0, 1, 2] bcast_S1x1x2048_S4x4096x2048_0_1_2
        (broadcastInDim S1x1x2048 ![2] bcast_S2048_S1x1x2048_2 (shapeCast S2048 nw shapeCasts_S1x2048_S2048))))
      (broadcastInDim S4x4096x2048 ![0, 1, 2] bcast_S4x1x2048_S4x4096x2048_0_1_2
        (addf (broadcastInDim S4x1x2048 ![] bcast_S_S4x1x2048 (constant S_ .f32 0x3F800000#32)) sc)))
    (broadcastInDim S4x4096x2048 ![0, 1, 2] bcast_S4x1x2048_S4x4096x2048_0_1_2 sh)

/-- The reference's feed-forward over an already normalised input `h`: `x + g ∘ (relu(h · U)² · D)`. -/
def ffn (h x : FVec Ideal S4x4096x2048 .f32) (gt : FVec Ideal S4x1x2048 .f32) (wu : FVec Ideal S2x2048x8192 .bf16)
    (wd : FVec Ideal S2x8192x2048 .bf16) : FVec Ideal S4x4096x2048 .f32 :=
  addf x (mulf (broadcastInDim S4x4096x2048 ![0, 1, 2] bcast_S4x1x2048_S4x4096x2048_0_1_2 gt)
    (Host.dotGeneral dot_S4x4096x8192_S8192x2048_S4x4096x2048_2_0_01_1_n_n none
      (mulf
        (maximumf (Host.dotGeneral dot_S4x4096x2048_S2048x8192_S4x4096x8192_2_0_01_1_n_n none h
          (extf .f32 (shapeCast S2048x8192 (extractStridedSlice S1x2048x8192 ![0, 0, 0] wu
            slices_S2x2048x8192_S1x2048x8192_0_0_0) shapeCasts_S1x2048x8192_S2048x8192) bitsLt_bf16_f32))
          (broadcastInDim S4x4096x8192 ![] bcast_S_S4x4096x8192 (constant S_ .f32 0x00000000#32)))
        (maximumf (Host.dotGeneral dot_S4x4096x2048_S2048x8192_S4x4096x8192_2_0_01_1_n_n none h
          (extf .f32 (shapeCast S2048x8192 (extractStridedSlice S1x2048x8192 ![0, 0, 0] wu
            slices_S2x2048x8192_S1x2048x8192_0_0_0) shapeCasts_S1x2048x8192_S2048x8192) bitsLt_bf16_f32))
          (broadcastInDim S4x4096x8192 ![] bcast_S_S4x4096x8192 (constant S_ .f32 0x00000000#32))))
      (extf .f32 (shapeCast S8192x2048 (extractStridedSlice S1x8192x2048 ![0, 0, 0] wd
        slices_S2x8192x2048_S1x8192x2048_0_0_0) shapeCasts_S1x8192x2048_S8192x2048) bitsLt_bf16_f32)))

/-- The hidden activation over a row of inputs `h` and a column of weights `u`: the squared positive part of their product. -/
def act (h u : Fin 2048 → EReal) : EReal := max (∑ d : Fin 2048, h d * u d) 0 * max (∑ d : Fin 2048, h d * u d) 0

/-- The feed-forward at an index, its 8192 hidden columns summed at once. -/
theorem ffn_apply (h x : FVec Ideal S4x4096x2048 .f32) (gt : FVec Ideal S4x1x2048 .f32) (wu : FVec Ideal S2x2048x8192 .bf16)
    (wd : FVec Ideal S2x8192x2048 .bf16) (b : Fin 4) (r : Fin 4096) (l : Fin 2048) :
    ffn h x gt wu wd (ix3 b r l) = x (ix3 b r l) + gt (ix3 b (0 : Fin 1) l)
      * ∑ n : Fin 8192, act (fun d => h (ix3 b r d)) (fun d => wu (ix3 (0 : Fin 2) d n)) * wd (ix3 (0 : Fin 2) n l) := by
  pointwise [ffn, act, dot_S4x4096x8192_S8192x2048_S4x4096x2048_2_0_01_1_n_n, dot_S4x4096x2048_S2048x8192_S4x4096x8192_2_0_01_1_n_n]

end Cert.MlpRefIdeal.RefValue

/-! ## The kernel's result array -/

namespace Cert.MlpIdeal.RefValue

open Cert.MlpIdeal Cert.MlpIdeal.Gen
open Cert.MlpRefIdeal.RefValue (normed ffn act ffn_apply)

variable (m : (ℓ : Loc nD τ sig) → Buf (Elt Ideal) ℓ) (ρ : Dev nD → PrngReg)

/-- The block indices of the windows at point `t`: batch `t / 64`, row tile `t / 8 % 8`, hidden block `t % 8`. -/
theorem idx : ∀ t : Fin cfg0.N,
    win0_0.index t = ![t.val / 64, t.val / 8 % 8, 0] ∧ win0_1.index t = ![0, 0]
    ∧ win0_2.index t = ![t.val / 64, 0, 0] ∧ win0_3.index t = ![t.val / 64, 0, 0] ∧ win0_4.index t = ![t.val / 64, 0, 0]
    ∧ win0_5.index t = ![0, 0, t.val % 8] ∧ win0_6.index t = ![0, t.val % 8, 0]
    ∧ win0_7.index t = ![t.val / 64, t.val / 8 % 8, 0] ∧ t.val / 64 < 4 :=
  (by decide +kernel : ∀ t : Fin grid0.N, _)

/-- The batch of point `t`. -/
def batch (t : Fin cfg0.N) : Fin 4 := ⟨t.val / 64, (idx t).2.2.2.2.2.2.2.2⟩
/-- The array row of local row `r` at point `t`. -/
def row (t : Fin cfg0.N) (r : Fin 512) : Fin 4096 := ⟨t.val / 8 % 8 * 512 + r.val, by have := r.isLt; omega⟩

/-- The reference's normalised input at the kernel's arguments. -/
abbrev hRef (c : Dev nD) : FVec Ideal S4x4096x2048 .f32 :=
  normed (m ((c : Thread nD τ).loc main_arg0)) (m ((c : Thread nD τ).loc main_arg1)) (m ((c : Thread nD τ).loc main_arg2))
    (m ((c : Thread nD τ).loc main_arg3))

/-- The normalised tile point `t` works with: the rows of `hRef` that the point's tile covers. -/
def tile (c : Dev nD) (t : Fin cfg0.N) : FVec Ideal S512x2048 .bf16 :=
  fun j => hRef m c (ix3 (batch t) (row t (j 0)) (j 1))

/-- The tile the body computes at the first hidden block is the reference's normalised input at the tile's rows. -/
theorem tile_apply (c : Dev nD) (t : Fin cfg0.N) (r : Fin 512) (l : Fin 2048) :
    k0_pay1 (iblk m c 0 t) (iblk m c 1 t) (iblk m c 2 t) (iblk m c 3 t) (ix2 r l) = tile m c t (ix2 r l) := by
  unfold tile batch row
  pointwise [k0_pay1, normed]
  blk_point [iblk, V, idx t]

/-- The zero fill. -/
theorem zero_apply (j : S512x2048.Idx) : k0_pay2 (F := Ideal) j = 0 := by pointwise [k0_pay2]

/-- One hidden block's step: the accumulator plus the block's contribution. -/
theorem step_apply (h : FVec Ideal S512x2048 .bf16) (wu : FVec Ideal S1x2048x1024 .bf16) (acc : FVec Ideal S512x2048 .f32)
    (wd : FVec Ideal S1x1024x2048 .bf16) (j : S512x2048.Idx) :
    k0_pay3 h wu acc wd j = acc j + ∑ k : Fin 1024, act (fun d => h (ix2 (j 0) d)) (fun d => wu (ix3 (0 : Fin 1) d k))
      * wd (ix3 (0 : Fin 1) k (j 1)) := by
  pointwise [k0_pay3, act, dot_S512x2048_S2048x1024_S512x1024_1_0_0_1_n_n, dot_S512x1024_S1024x2048_S512x2048_1_0_0_1_n_n]

/-- The last step's store: the residual plus the gate times the accumulator. -/
theorem out_apply (x : FVec Ideal S1x512x2048 .f32) (g : FVec Ideal S1x1x2048 .f32) (acc : FVec Ideal S512x2048 .f32)
    (y : S1x512x2048.Idx) :
    k0_pay4 x g acc y = x y + g (ix3 (0 : Fin 1) (0 : Fin 1) (y 2)) * acc (ix2 (y 1) (y 2)) := by
  pointwise [k0_pay4]

/-- The first scratch buffer holds the point's normalised tile at every point: written at the first hidden block, kept after. -/
theorem scratch (c : Dev nD) : ∀ (n : ℕ) (hn : n < cfg0.N), (outsAt0 m c n hn).2.1 = tile m c ⟨n, hn⟩ := by
  intro n
  induction n with
  | zero =>
    intro hn
    refine (congrArg (fun p => p.2.1) (outsAt0_A m c ⟨0, hn⟩ rfl (by show ¬ 0 % 8 = 7; decide))).trans ?_
    frame_out
    funext j
    rw [eq_ix2 j]
    exact tile_apply m c _ (j 0) (j 1)
  | succ n ih =>
    intro hn
    by_cases h0 : (n + 1) % 8 = 0
    · refine (congrArg (fun p => p.2.1) (outsAt0_A m c ⟨n + 1, hn⟩ h0 (by show ¬ (n + 1) % 8 = 7; omega))).trans ?_
      frame_out
      funext j
      rw [eq_ix2 j]
      exact tile_apply m c _ (j 0) (j 1)
    · have keep : (outsAt0 m c (n + 1) hn).2.1 = (outsAt0 m c n (Nat.lt_of_succ_lt hn)).2.1 := by
        by_cases h1 : (n + 1) % 8 = 7
        · exact congrArg (fun p => p.2.1) (outsAt0_C m c ⟨n + 1, hn⟩ h0 h1)
        · exact congrArg (fun p => p.2.1) (outsAt0_B m c ⟨n + 1, hn⟩ h0 h1)
      rw [keep, ih]
      unfold tile batch row
      have e1 : n / 64 = (n + 1) / 64 := by omega
      have e2 : n / 8 = (n + 1) / 8 := by omega
      simp only [e1, e2]

/-- The contribution of point `t`'s hidden block, at an index of the tile. -/
def part (c : Dev nD) (t : Fin cfg0.N) (j : S512x2048.Idx) : EReal :=
  ∑ k : Fin 1024, act (fun d => tile m c t (ix2 (j 0) d)) (fun d => (show FVec Ideal S1x2048x1024 .bf16 from iblk m c 5 t) (ix3 (0 : Fin 1) d k))
    * (show FVec Ideal S1x1024x2048 .bf16 from iblk m c 6 t) (ix3 (0 : Fin 1) k (j 1))

/-- The accumulator at the last hidden block of a tile: the sum of the tile's eight contributions. -/
theorem acc_apply (c : Dev nD) (t : Fin cfg0.N) (ht : t.val % 8 = 7) (j : S512x2048.Idx) :
    (outsAt0 m c t.val t.isLt).2.2 j = ∑ s : Fin 8, part m c ⟨8 * (t.val / 8) + s.val, Pipeline.run_point_lt_of_flush t ht s⟩ j := by
  refine (Pipeline.eq_sum_fin_of_reset_step_apply_of_flush (fun n h => (outsAt0 m c n h).2.2) 8 (fun _ => (0 : EReal)) (part m c)
    (fun t h j => ?_) (fun t h j => ?_) t ht j).trans (zero_add _)
  · have hs := scratch m c t.val t.isLt
    show (outsAt0 m c t.val t.isLt).2.2 j = _
    rw [outsAt0_A m c t h (by omega)] at hs ⊢
    frame_out
    frame_out at hs
    rw [step_apply, hs, zero_apply]; rfl
  · have hs := scratch m c t.val t.isLt
    show (outsAt0 m c t.val t.isLt).2.2 j = (outsAt0 m c (t.val - 1) _).2.2 j + _
    by_cases h1 : t.val % 8 = 7
    · rw [outsAt0_C m c t h h1] at hs ⊢
      have hp : (outsAt0 m c (t.val - 1) (Nat.lt_of_le_of_lt (Nat.sub_le _ _) t.isLt)).2.1 = tile m c t := hs
      frame_out
      rw [step_apply, hp]
      erw [(Memref.isWhole_whole cc0_scratch1).read_unread, (Memref.isWhole_whole cc0_scratch0).read_unread]
      rfl
    · rw [outsAt0_B m c t h h1] at hs ⊢
      have hp : (outsAt0 m c (t.val - 1) (Nat.lt_of_le_of_lt (Nat.sub_le _ _) t.isLt)).2.1 = tile m c t := hs
      frame_out
      rw [step_apply, hp]
      erw [(Memref.isWhole_whole cc0_scratch1).read_unread, (Memref.isWhole_whole cc0_scratch0).read_unread]
      rfl

/-- What the last hidden block of a tile stores is the reference's value where the index sits in the array. -/
theorem point (c : Dev nD) (t : Fin cfg0.N) (ht : t.val % 8 = 7) (y : S1x512x2048.Idx) :
    k0_pay4 (iblk m c 0 t) (iblk m c 4 t) (outsAt0 m c t.val t.isLt).2.2 y
      = ffn (hRef m c) (m ((c : Thread nD τ).loc main_arg0)) (m ((c : Thread nD τ).loc main_arg4))
          (m ((c : Thread nD τ).loc main_arg5)) (m ((c : Thread nD τ).loc main_arg6)) (((cfg0.win 7).blk t).view.emb y) := by
  have he : ((cfg0.win 7).blk t).view.emb y = ix3 (batch t) (row t (y 1)) (y 2) := by
    unfold batch row
    blk_ext [idx t]
  rw [he]
  refine (out_apply _ _ _ y).trans (Eq.trans ?_ (ffn_apply _ _ _ _ _ (batch t) (row t (y 1)) (y 2)).symm)
  rw [acc_apply m c t ht]
  refine congrArg₂ (· + ·) ?_ (congrArg₂ (· * ·) ?_ ?_)
  · unfold batch row
    blk_ext [iblk, V, idx t]
  · unfold batch
    blk_ext [iblk, V, idx t]
  · unfold part
    refine Fin.sum_mul_add_congr fun s k hl => ?_
    have hs := s.isLt
    refine congrArg₂ (· * ·) (congrArg₂ act (funext fun d => ?_) (funext fun d => ?_)) ?_
    · have e1 : (8 * (t.val / 8) + s.val) / 64 = t.val / 64 := by omega
      have e2 : (8 * (t.val / 8) + s.val) / 8 % 8 = t.val / 8 % 8 := by omega
      unfold tile batch row
      simp only [e1, e2]
      rfl
    · have e3 : (8 * (t.val / 8) + s.val) % 8 = s.val := by omega
      blk_ext [iblk, V, idx ⟨8 * (t.val / 8) + s.val, Pipeline.run_point_lt_of_flush t ht s⟩, e3]
    · have e3 : (8 * (t.val / 8) + s.val) % 8 = s.val := by omega
      blk_ext [iblk, V, idx ⟨8 * (t.val / 8) + s.val, Pipeline.run_point_lt_of_flush t ht s⟩, e3]

/-- The result array after the run is the reference's function of the arguments. -/
theorem final (c : Dev nD) : (dats m 0 c).arrAt 7 (cfgs 0).N
    = ffn (hRef m c) (m ((c : Thread nD τ).loc main_arg0)) (m ((c : Thread nD τ).loc main_arg4))
          (m ((c : Thread nD τ).loc main_arg5)) (m ((c : Thread nD τ).loc main_arg6)) := by
  refine (dats m 0 c).arrAt_eq_of_covers 7 _ (by decide +kernel) fun t hf y => ?_
  have ht := (flush0_7 t).mp hf
  blk_simp
  have hp := point m c t ht y
  rw [after0_7]
  rw [outsAt0_C m c t (by omega) ht] at hp ⊢
  frame_out
  frame_out at hp
  exact hp

end Cert.MlpIdeal.RefValue

/-! ## The claims about the feed-forward half -/

namespace Cert.Proof.MlpClaims

/-- The kernel as written runs, leaves its arguments, and ends quiescent. -/
theorem frame_k : Cert.quiescent_Mlp := fun m g _ => Cert.Mlp.Gen.frame m g
/-- So does the kernel read over the extended reals, -/
theorem frame_ki : Cert.quiescent_MlpIdeal := fun m g _ => Cert.MlpIdeal.Gen.frame m g
/-- and the reference read over the extended reals, which has no semaphore. -/
theorem frame_ri : Cert.quiescent_MlpRefIdeal := fun m g _ =>
  (θ_run Cert.MlpRefIdeal.defs _ _).mono (fun r h => ⟨fun c => (h c).2, sem_eq_zero_of_no_sems (by decide) r.2⟩)
    (Cert.MlpRefIdeal.Value.run (F := Ideal) m g)

/-- The exact reading of the kernel replaces nothing in it. -/
theorem preserves : Cert.preserves_Mlp_MlpIdeal := trivial

/-- Over the extended reals the kernel's result is the reference's, element by element, for all arguments. -/
theorem algebraic : Cert.algebraic_MlpIdeal_MlpRefIdeal := by
  pair_intro
  · run_from Cert.MlpIdeal.Gen.run_main m g
  · run_from Cert.MlpRefIdeal.Value.run m' g'
    exact (Cert.MlpIdeal.RefValue.final m c).symm

end Cert.Proof.MlpClaims

end
-- ==== Proof.InProjValue.lean ====
/-
  The input projection: what the call computes over the extended reals.

  The call multiplies a normalised input by the weight without its 32 gate columns, and by those 32 columns, padded to 128
  lanes, for the gates. The reference multiplies by the whole weight and cuts the product afterwards. The module states the
  reference's term at an index, the operands the kernel's host code prepares, what the body leaves at an index, and where a
  point's blocks sit in the arrays; put together, the projection is the reference's everywhere and the gates on the 32 lanes
  that hold gates. The other 96 lanes are padding, zero in the reference and the decay gate of zero in the kernel, so the
  claim leaves them out.
-/
module

public import proofs.«01_k».proof.Defs
public import proofs.«01_k».proof.Proof.InProjFrame
public import proofs.«01_k».proof.Proof.MlpValue

@[expose] public section

set_option maxRecDepth 16384

noncomputable section

open Idealize.ShloMosaic Idealize.ShloMosaic.TcCoe Idealize.SL.Sem
open Idealize.ShloMosaic.Pipeline (Dat)

/-! ## The reference's term -/

namespace Cert.InProjRefIdeal.RefValue

open Cert.InProjRefIdeal Cert.InProjRefIdeal.Gen

/-- The full projection of a normalised input. -/
def proj (h : FVec Ideal S4x4096x2048 .f32) (w : FVec Ideal S2x2048x5664 .f32) : FVec Ideal S4x4096x5664 .f32 :=
  Host.dotGeneral dot_S4x4096x2048_S2048x5664_S4x4096x5664_2_0_01_1_n_n none h
    (shapeCast S2048x5664 (extractStridedSlice S1x2048x5664 ![0, 0, 0] w slices_S2x2048x5664_S1x2048x5664_0_0_0)
      shapeCasts_S1x2048x5664_S2048x5664)

/-- The projection's columns without the gates' 32. -/
def cols (p : FVec Ideal S4x4096x5664 .f32) : FVec Ideal S4x4096x5632 .bf16 :=
  truncf .bf16 (concatenate S4x4096x5632 2
    [⟨S4x4096x4096, extractStridedSlice S4x4096x4096 ![0, 0, 0] p slices_S4x4096x5664_S4x4096x4096_0_0_0⟩,
     ⟨S4x4096x1536, extractStridedSlice S4x4096x1536 ![0, 0, 4128] p slices_S4x4096x5664_S4x4096x1536_0_0_4128⟩]
    concatenates_S4x4096x4096_S4x4096x1536_S4x4096x5632_d2) bitsLt_bf16_f32

/-- `softplus z`, as `logaddexp(z, 0)` spells it. -/
def softplus (z : FVec Ideal S4x4096x2x8 .f32) : FVec Ideal S4x4096x2x8 .f32 :=
  select
    (cmpf .une (subf z (broadcastInDim S4x4096x2x8 ![] bcast_S_S4x4096x2x8 (constant S_ .f32 0x00000000#32)))
      (subf z (broadcastInDim S4x4096x2x8 ![] bcast_S_S4x4096x2x8 (constant S_ .f32 0x00000000#32))))
    (addf z (broadcastInDim S4x4096x2x8 ![] bcast_S_S4x4096x2x8 (constant S_ .f32 0x00000000#32)))
    (addf (maximumf z (broadcastInDim S4x4096x2x8 ![] bcast_S_S4x4096x2x8 (constant S_ .f32 0x00000000#32)))
      (Host.log1p (Host.exp (Host.negf (Host.absf
        (subf z (broadcastInDim S4x4096x2x8 ![] bcast_S_S4x4096x2x8 (constant S_ .f32 0x00000000#32))))))))

/-- The gates: `sigmoid` of the first sixteen gate columns, `-exp(a) · softplus(· + t)` of the other sixteen, padded to 128
    lanes. -/
def gateArr (p : FVec Ideal S4x4096x5664 .f32) (a t : FVec Ideal S2x8 .f32) : FVec Ideal S4x4096x128 .f32 :=
  pad S4x4096x128 ![0, 0, 0] ![0, 0, 96] ![0, 0, 0] (concatenate S4x4096x32 2
    [⟨S4x4096x16, Host.divf (broadcastInDim S4x4096x16 ![] bcast_S_S4x4096x16 (constant S_ .f32 0x3F800000#32))
      (addf (broadcastInDim S4x4096x16 ![] bcast_S_S4x4096x16 (constant S_ .f32 0x3F800000#32))
        (Host.exp (Host.negf (extractStridedSlice S4x4096x16 ![0, 0, 4096] p slices_S4x4096x5664_S4x4096x16_0_0_4096))))⟩,
     ⟨S4x4096x16, shapeCast S4x4096x16
      (mulf (broadcastInDim S4x4096x2x8 ![0, 1, 2, 3] bcast_S1x1x2x8_S4x4096x2x8_0_1_2_3
          (broadcastInDim S1x1x2x8 ![2, 3] bcast_S2x8_S1x1x2x8_2_3 (Host.negf (Host.exp a))))
        (softplus (addf (shapeCast S4x4096x2x8 (extractStridedSlice S4x4096x16 ![0, 0, 4112] p
            slices_S4x4096x5664_S4x4096x16_0_0_4112) shapeCasts_S4x4096x16_S4x4096x2x8)
          (broadcastInDim S4x4096x2x8 ![0, 1, 2, 3] bcast_S1x1x2x8_S4x4096x2x8_0_1_2_3
            (broadcastInDim S1x1x2x8 ![2, 3] bcast_S2x8_S1x1x2x8_2_3 t)))))
      shapeCasts_S4x4096x2x8_S4x4096x16⟩]
    concatenates_S4x4096x16_S4x4096x16_S4x4096x32_d2) (sitofp .f32 (constantI S_ 32 0#32))
    pads_S4x4096x32_S4x4096x128_000_000_0960 h_S_

/-- The logistic function. -/
def sigm (x : EReal) : EReal := Ideal.div 1 (1 + Ideal.exp (0 - x))

/-- The decay gate `-exp(a) · softplus(x)`. -/
def decay (a x : EReal) : EReal := (0 - Ideal.exp a) * (max x 0 + Ideal.log (1 + Ideal.exp (0 - FloatOps.absf (F := Ideal) (φ := .f32) x)))

/-- `softplus` at an index: what `logaddexp` keeps for a value that differs from itself is never taken. -/
theorem softplus_apply (z : FVec Ideal S4x4096x2x8 .f32) (i : S4x4096x2x8.Idx) :
    softplus z i = max (z i) 0 + Ideal.log (1 + Ideal.exp (0 - FloatOps.absf (F := Ideal) (φ := .f32) (z i))) := by
  pointwise [softplus]
  rw [if_neg (not_not.2 rfl), zero_sub]
  rfl

/-- The reference's first sixteen gates. -/
theorem gateArr_beta (p : FVec Ideal S4x4096x5664 .f32) (a t : FVec Ideal S2x8 .f32) (b : Fin 4) (r : Fin 4096) (j : Fin 16) :
    gateArr p a t (ix3 b r (⟨j.val, by have := j.isLt; omega⟩ : Fin 128))
      = sigm (p (ix3 b r (⟨4096 + j.val, by have := j.isLt; omega⟩ : Fin 5664))) := by
  have hl := j.isLt
  have h32 : j.val < 32 := by omega
  pointwise [gateArr, sigm]
  rw [dif_pos h32, zero_sub]

/-- The reference's other sixteen gates: column `j` belongs to direction `j / 8` and head `j % 8`. -/
theorem gateArr_decay (p : FVec Ideal S4x4096x5664 .f32) (a t : FVec Ideal S2x8 .f32) (b : Fin 4) (r : Fin 4096) (j : Fin 16) :
    gateArr p a t (ix3 b r (⟨16 + j.val, by have := j.isLt; omega⟩ : Fin 128))
      = decay (a (ix2 (⟨j.val / 8, by have := j.isLt; omega⟩ : Fin 2) (⟨j.val % 8, by omega⟩ : Fin 8)))
          (p (ix3 b r (⟨4112 + j.val, by have := j.isLt; omega⟩ : Fin 5664))
            + t (ix2 (⟨j.val / 8, by have := j.isLt; omega⟩ : Fin 2) (⟨j.val % 8, by omega⟩ : Fin 8))) := by
  have hl := j.isLt
  have h32 : 16 + j.val < 32 := by omega
  pointwise [gateArr]
  rw [dif_pos h32, softplus_apply]
  pointwise [decay]
  rw [zero_sub (Ideal.exp _)]

/-- The projection at an index. -/
theorem proj_apply (h : FVec Ideal S4x4096x2048 .f32) (w : FVec Ideal S2x2048x5664 .f32) (b : Fin 4) (r : Fin 4096)
    (l : Fin 5664) : proj h w (ix3 b r l) = ∑ d : Fin 2048, h (ix3 b r d) * w (ix3 (0 : Fin 2) d l) := by
  pointwise [proj, dot_S4x4096x2048_S2048x5664_S4x4096x5664_2_0_01_1_n_n]

/-- Where a column of the projection without the gates sits in the full projection. -/
def skip (l : Fin 5632) : Fin 5664 := ⟨if l.val < 4096 then l.val else l.val + 32, by have := l.isLt; split <;> omega⟩

/-- The columns without the gates, at an index. -/
theorem cols_apply (p : FVec Ideal S4x4096x5664 .f32) (b : Fin 4) (r : Fin 4096) (l : Fin 5632) :
    cols p (ix3 b r l) = p (ix3 b r (skip l)) := by
  have hl := l.isLt
  pointwise [cols]
  split <;> rename_i h
  · exact congrArg (fun k => p (ix3 b r k)) (Fin.ext (by simp only [skip, if_pos h]))
  · exact congrArg (fun k => p (ix3 b r k)) (Fin.ext (by simp only [skip, if_neg h]; omega))

end Cert.InProjRefIdeal.RefValue

namespace Cert.InProj.RefValue

open Cert.InProj Cert.InProj.Gen
open Cert.InProjRefIdeal.RefValue

variable (m : (ℓ : Loc nD τ sig) → Buf (Elt Ideal) ℓ) (ρ : Dev nD → PrngReg)

/-! ## The operands prepared before the launch -/

/-- The weight without the gates' columns, as the kernel's fifth operand. -/
def mainW (w : FVec Ideal S2x2048x5664 .f32) : FVec Ideal S2x2048x5632 .bf16 :=
  truncf .bf16 (concatenate S2x2048x5632 2
    [⟨S2x2048x4096, extractStridedSlice S2x2048x4096 ![0, 0, 0] w slices_S2x2048x5664_S2x2048x4096_0_0_0⟩,
     ⟨S2x2048x1536, extractStridedSlice S2x2048x1536 ![0, 0, 4128] w slices_S2x2048x5664_S2x2048x1536_0_0_4128⟩]
    concatenates_S2x2048x4096_S2x2048x1536_S2x2048x5632_d2) bitsLt_bf16_f32

/-- The weight's gate columns, padded to 128, as the sixth. -/
def gateW (w : FVec Ideal S2x2048x5664 .f32) : FVec Ideal S2x2048x128 .bf16 :=
  truncf .bf16 (pad S2x2048x128 ![0, 0, 0] ![0, 0, 96] ![0, 0, 0]
    (extractStridedSlice S2x2048x32 ![0, 0, 4096] w slices_S2x2048x5664_S2x2048x32_0_0_4096)
    (sitofp .f32 (constantI S_ 32 0#32)) pads_S2x2048x32_S2x2048x128_000_000_0960 h_S_) bitsLt_bf16_f32

/-- A row of sixteen head parameters at lanes 16 to 31 of 128, as the last two. -/
def headRow (a : FVec Ideal S2x8 .f32) : FVec Ideal S1x128 .f32 :=
  pad S1x128 ![0, 16] ![0, 96] ![0, 0] (shapeCast S1x16 a shapeCasts_S2x8_S1x16) (sitofp .f32 (constantI S_ 32 0#32))
    pads_S1x16_S1x128_000_16960 h_S_

/-- The operands the launch finds are these functions of the arguments. -/
theorem operands_eq (c : Dev nD) : V m c main_v3 = mainW (m ((c : Thread nD τ).loc main_arg4))
    ∧ V m c main_v6 = gateW (m ((c : Thread nD τ).loc main_arg4)) ∧ V m c main_v8 = headRow (m ((c : Thread nD τ).loc main_arg5))
    ∧ V m c main_v10 = headRow (m ((c : Thread nD τ).loc main_arg6)) := by
  dsimp only [V, hostOps0, hostOps0_1, hostOps0_2, hostOps0_3, hostOps0_4, hostOps0_5, List.flatten_cons, List.flatten_nil,
    List.append_nil, List.cons_append, List.nil_append]
  simp only [StableHlo.TRef.binary, StableHlo.TRef.nullary, StableHlo.TRef.ternary, StableHlo.TRef.unary, StableHlo.TRef.toBuf,
    StableHlo.TRef.ofBuf, cast_eq]
  refine ⟨?_, ?_, ?_, ?_⟩ <;> (after_results_simp; rfl)

/-- The weight's columns without the gates, -/
theorem mainW_eq (c : Dev nD) : V m c main_v3 = mainW (m ((c : Thread nD τ).loc main_arg4)) := (operands_eq m c).1
/-- its gate columns, -/
theorem gateW_eq (c : Dev nD) : V m c main_v6 = gateW (m ((c : Thread nD τ).loc main_arg4)) := (operands_eq m c).2.1
/-- the logarithms of the decays, -/
theorem alog_eq (c : Dev nD) : V m c main_v8 = headRow (m ((c : Thread nD τ).loc main_arg5)) := (operands_eq m c).2.2.1
/-- and the offsets, each as the launch finds it. -/
theorem dt_eq (c : Dev nD) : V m c main_v10 = headRow (m ((c : Thread nD τ).loc main_arg6)) := (operands_eq m c).2.2.2

/-- The fifth operand's column `l` is the weight's column `skip l`. -/
theorem mainW_apply (w : FVec Ideal S2x2048x5664 .f32) (b : Fin 2) (d : Fin 2048) (l : Fin 5632) :
    mainW w (ix3 b d l) = w (ix3 b d (skip l)) := by
  have hl := l.isLt
  pointwise [mainW]
  split <;> rename_i h
  · exact congrArg (fun k => w (ix3 b d k)) (Fin.ext (by simp only [skip, if_pos h]))
  · exact congrArg (fun k => w (ix3 b d k)) (Fin.ext (by simp only [skip, if_neg h]; omega))

/-- The sixth operand's first 32 columns are the weight's columns 4096 to 4127. -/
theorem gateW_apply (w : FVec Ideal S2x2048x5664 .f32) (b : Fin 2) (d : Fin 2048) (l : Fin 32) :
    gateW w (ix3 b d (l.castLE (by decide : 32 ≤ 128))) = w (ix3 b d ⟨4096 + l.val, by have := l.isLt; omega⟩) := by
  have hl := l.isLt
  pointwise [gateW]
  exact dif_pos hl

/-- Lane `16 + j` of a head parameter's row is the parameter of direction `j / 8` and head `j % 8`. -/
theorem headRow_apply (a : FVec Ideal S2x8 .f32) (j : Fin 16) :
    headRow a (ix2 (0 : Fin 1) (⟨16 + j.val, by have := j.isLt; omega⟩ : Fin 128))
      = a (ix2 (⟨j.val / 8, by have := j.isLt; omega⟩ : Fin 2) (⟨j.val % 8, by omega⟩ : Fin 8)) := by
  have hl := j.isLt
  pointwise [headRow]

/-! ## What the body computes at an index -/

/-- The normalised tile times a column tile of the weight. -/
theorem tile_apply (h : FVec Ideal S512x2048 .bf16) (w : FVec Ideal S1x2048x2816 .bf16) (y : S1x512x2816.Idx) :
    k0_pay2 h w y = ∑ d : Fin 2048, h (ix2 (y 1) d) * w (ix3 (0 : Fin 1) d (y 2)) := by
  pointwise [k0_pay2, dot_S512x2048_S2048x2816_S512x2816_1_0_0_1_n_n]

/-- The normalised tile times the gates' columns. -/
theorem ba_apply (x0 : FVec Ideal S1x512x2048 .f32) (x1 : FVec Ideal S1x2048 .f32) (x2 x3 : FVec Ideal S1x1x2048 .f32)
    (x5 : FVec Ideal S1x2048x128 .bf16) (r : Fin 512) (l : Fin 128) :
    (k0_pay5 (F := Ideal) x0 x1 x2 x3 x5 (ix2 r l) : EReal)
      = ∑ d : Fin 2048, (k0_pay4 (F := Ideal) x0 x1 x2 x3 (ix2 r d) : EReal) * x5 (ix3 (0 : Fin 1) d l) := by
  pointwise [k0_pay5, k0_pay4, dot_S512x2048_S2048x128_S512x128_1_0_0_1_n_n]

/-- The lane comparison that chooses between the two kinds of gates. -/
theorem lane_lt : ∀ n : Fin 128, IntOp.cmpi .slt (BitVec.ofNat 32 n.val) 16#32 = if n.val < 16 then 1#1 else 0#1 := by
  decide +kernel

/-- A gate of the first sixteen lanes. -/
theorem pay_beta (z : FVec Ideal S512x128 .f32) (x6 x7 : FVec Ideal S1x128 .f32) (y : S1x512x128.Idx) (hy : (y 2).val < 16) :
    k0_pay1 z k0_pay6 k0_pay7 x6 x7 y = sigm (z (ix2 (y 1) (y 2))) := by
  have h := (lane_lt (y 2)).trans (if_pos hy)
  pointwise [k0_pay1, k0_pay6, k0_pay7, sigm]
  rw [h]; rfl

/-- A gate of the other lanes. -/
theorem pay_decay (z : FVec Ideal S512x128 .f32) (x6 x7 : FVec Ideal S1x128 .f32) (y : S1x512x128.Idx) (hy : ¬ (y 2).val < 16) :
    k0_pay1 z k0_pay6 k0_pay7 x6 x7 y = decay (x6 (ix2 (0 : Fin 1) (y 2))) (z (ix2 (y 1) (y 2)) + x7 (ix2 (0 : Fin 1) (y 2))) := by
  have h := (lane_lt (y 2)).trans (if_neg hy)
  pointwise [k0_pay1, k0_pay6, k0_pay7, decay]
  rw [h]; rfl

/-! ## The tiles as parts of the reference's arrays -/

/-- The block indices of the windows at point `t`: batch `t / 16`, row tile `t / 2 % 8`, column tile `t % 2`. -/
theorem idx : ∀ t : Fin cfg0.N,
    win0_0.index t = ![t.val / 16, t.val / 2 % 8, 0] ∧ win0_1.index t = ![0, 0]
    ∧ win0_2.index t = ![t.val / 16, 0, 0] ∧ win0_3.index t = ![t.val / 16, 0, 0] ∧ win0_4.index t = ![0, 0, t.val % 2]
    ∧ win0_5.index t = ![0, 0, 0] ∧ win0_6.index t = ![0, 0] ∧ win0_7.index t = ![0, 0]
    ∧ win0_8.index t = ![t.val / 16, t.val / 2 % 8, t.val % 2] ∧ win0_9.index t = ![t.val / 16, t.val / 2 % 8, 0]
    ∧ t.val / 16 < 4 :=
  (by decide +kernel : ∀ t : Fin grid0.N, _)

/-- The batch of point `t`. -/
def batch (t : Fin cfg0.N) : Fin 4 := ⟨t.val / 16, (idx t).2.2.2.2.2.2.2.2.2.2⟩
/-- The array row of local row `r` at point `t`. -/
def row (t : Fin cfg0.N) (r : Fin 512) : Fin 4096 := ⟨t.val / 2 % 8 * 512 + r.val, by have := r.isLt; omega⟩
/-- The projection's column of local column `l` at point `t`. -/
def col (t : Fin cfg0.N) (l : Fin 2816) : Fin 5632 := ⟨t.val % 2 * 2816 + l.val, by have := l.isLt; omega⟩

/-- The reference's normalised input at the kernel's arguments. -/
abbrev hRef (c : Dev nD) : FVec Ideal S4x4096x2048 .f32 :=
  Cert.MlpRefIdeal.RefValue.normed (m ((c : Thread nD τ).loc main_arg0)) (m ((c : Thread nD τ).loc main_arg1))
    (m ((c : Thread nD τ).loc main_arg2)) (m ((c : Thread nD τ).loc main_arg3))

/-- The two points of a pair have the same batch, -/
theorem batch_lead (t : Fin cfg0.N) : batch (lead t) = batch t := Fin.ext (by simp only [batch, lead]; omega)
/-- and the same rows. -/
theorem row_lead (t : Fin cfg0.N) (r : Fin 512) : row (lead t) r = row t r := Fin.ext (by simp only [row, lead]; omega)

/-- The tile a body normalises is the reference's normalised input at the tile's rows. -/
theorem normed_apply (c : Dev nD) (t : Fin cfg0.N) (r : Fin 512) (l : Fin 2048) :
    k0_pay4 (iblk m c 0 t) (iblk m c 1 t) (iblk m c 2 t) (iblk m c 3 t) (ix2 r l)
      = hRef m c (ix3 (batch t) (row t r) l) := by
  unfold batch row
  pointwise [k0_pay4, k0_pay3, Cert.MlpRefIdeal.RefValue.normed]
  blk_point [iblk, V, idx t]

/-- So is what the scratch holds after a point. -/
theorem normed_lead (c : Dev nD) (t : Fin cfg0.N) (r : Fin 512) (l : Fin 2048) :
    scr m c t (ix2 r l) = hRef m c (ix3 (batch t) (row t r) l) := by
  rw [← batch_lead t, ← row_lead t r]
  exact normed_apply m c (lead t) r l

/-- A point's block of the projection is the reference's columns where the block sits in the array. -/
theorem point_cols (c : Dev nD) (t : Fin cfg0.N) (y : S1x512x2816.Idx) :
    tile m c t y = cols (proj (hRef m c) (m ((c : Thread nD τ).loc main_arg4))) (((cfg0.win 8).blk t).view.emb y) := by
  have he : ((cfg0.win 8).blk t).view.emb y = ix3 (batch t) (row t (y 1)) (col t (y 2)) := by
    unfold batch row col
    blk_ext [idx t]
  rw [he]
  refine (tile_apply _ _ y).trans (Eq.trans ?_ ((cols_apply _ _ _ _).trans (proj_apply _ _ _ _ _)).symm)
  refine Finset.sum_congr rfl fun d _ => congrArg₂ (· * ·) ?_ ?_
  · exact normed_lead m c t (y 1) d
  · refine Eq.trans ?_ (mainW_apply _ 0 d (col t (y 2)))
    rw [← mainW_eq m c]
    unfold col
    blk_ext [iblk, idx t]

/-- The first result after the run is the reference's columns of the projection. -/
theorem final_cols (c : Dev nD) :
    (dats m 0 c).arrAt 8 (cfgs 0).N = cols (proj (hRef m c) (m ((c : Thread nD τ).loc main_arg4))) := by
  refine (dats m 0 c).arrAt_eq_of_covers 8 _ (by decide +kernel) fun t hf y => ?_
  blk_simp
  rw [after_8]
  exact point_cols m c t y

/-- The gates before their nonlinearities: the normalised input times the gates' columns, padded to 128 lanes. -/
def preGate (c : Dev nD) (b : Fin 4) (r : Fin 4096) (l : Fin 128) : EReal :=
  ∑ d : Fin 2048, hRef m c (ix3 b r d) * gateW (m ((c : Thread nD τ).loc main_arg4)) (ix3 (0 : Fin 2) d l)

/-- The kernel's gates on all 128 lanes, padding included. -/
def gateLanes (c : Dev nD) (b : Fin 4) (r : Fin 4096) (l : Fin 128) : EReal :=
  if l.val < 16 then sigm (preGate m c b r l)
  else decay (headRow (m ((c : Thread nD τ).loc main_arg5)) (ix2 (0 : Fin 1) l))
    (preGate m c b r l + headRow (m ((c : Thread nD τ).loc main_arg6)) (ix2 (0 : Fin 1) l))

/-- The same as an array. -/
def gateOut (c : Dev nD) : FVec Ideal S4x4096x128 .f32 := fun i => gateLanes m c (i 0) (i 1) (i 2)

/-- A row tile times the gates' columns, at an index. -/
theorem pre_apply (c : Dev nD) (t : Fin cfg0.N) (r : Fin 512) (l : Fin 128) :
    (k0_pay5 (F := Ideal) (iblk m c 0 t) (iblk m c 1 t) (iblk m c 2 t) (iblk m c 3 t) (iblk m c 5 t) (ix2 r l) : EReal)
      = preGate m c (batch t) (row t r) l := by
  refine (ba_apply _ _ _ _ _ r l).trans (Finset.sum_congr rfl fun d _ => congrArg₂ (· * ·) (normed_apply m c t r d) ?_)
  rw [← gateW_eq m c]
  blk_ext [iblk, idx t]

/-- The same at the first point of a point's pair. -/
theorem pre_lead (c : Dev nD) (t : Fin cfg0.N) (r : Fin 512) (l : Fin 128) :
    (k0_pay5 (F := Ideal) (iblk m c 0 (lead t)) (iblk m c 1 (lead t)) (iblk m c 2 (lead t)) (iblk m c 3 (lead t))
      (iblk m c 5 (lead t)) (ix2 r l) : EReal) = preGate m c (batch t) (row t r) l := by
  rw [← batch_lead t, ← row_lead t r]
  exact pre_apply m c (lead t) r l

/-- A point's block of the gates is the kernel's gate array where the block sits in it. -/
theorem point_gates (c : Dev nD) (t : Fin cfg0.N) (y : S1x512x128.Idx) :
    gates m c t y = gateOut m c (((cfg0.win 9).blk t).view.emb y) := by
  have he : ((cfg0.win 9).blk t).view.emb y = ix3 (batch t) (row t (y 1)) (y 2) := by
    unfold batch row
    blk_ext [idx t]
  rw [he]
  refine Eq.trans ?_ (rfl : gateLanes m c (batch t) (row t (y 1)) (y 2) = _)
  have hz := pre_lead m c t (y 1) (y 2)
  have ha : (iblk m c 6 (lead t) : FVec Ideal S1x128 .f32) (ix2 (0 : Fin 1) (y 2))
      = headRow (m ((c : Thread nD τ).loc main_arg5)) (ix2 (0 : Fin 1) (y 2)) := by
    rw [← alog_eq m c]
    blk_ext [iblk, idx (lead t)]
  have hd : (iblk m c 7 (lead t) : FVec Ideal S1x128 .f32) (ix2 (0 : Fin 1) (y 2))
      = headRow (m ((c : Thread nD τ).loc main_arg6)) (ix2 (0 : Fin 1) (y 2)) := by
    rw [← dt_eq m c]
    blk_ext [iblk, idx (lead t)]
  unfold gates gatesOf gateLanes
  by_cases hy : (y 2).val < 16
  · rw [if_pos hy]
    exact (pay_beta _ _ _ y hy).trans (congrArg sigm hz)
  · rw [if_neg hy]
    exact (pay_decay _ _ _ y hy).trans (congrArg₂ decay ha (congrArg₂ (· + ·) hz hd))

/-- The second result after the run is the kernel's gate array. -/
theorem final_gates (c : Dev nD) : (dats m 0 c).arrAt 9 (cfgs 0).N = gateOut m c := by
  refine (dats m 0 c).arrAt_eq_of_covers 9 _ (by decide +kernel) fun t hf y => ?_
  blk_simp
  rw [after_9]
  exact point_gates m c t y

/-- On its first 32 lanes the kernel's gate array is the reference's. -/
theorem gateOut_eq (c : Dev nD) (i : S4x4096x128.Idx) (hi : (i 2).val < 32) :
    gateOut m c i = gateArr (proj (hRef m c) (m ((c : Thread nD τ).loc main_arg4))) (m ((c : Thread nD τ).loc main_arg5))
      (m ((c : Thread nD τ).loc main_arg6)) i := by
  have hp : preGate m c (i 0) (i 1) (i 2)
      = proj (hRef m c) (m ((c : Thread nD τ).loc main_arg4)) (ix3 (i 0) (i 1) (⟨4096 + (i 2).val, by omega⟩ : Fin 5664)) :=
    Eq.trans (Finset.sum_congr rfl fun d _ => congrArg₂ (· * ·) rfl (gateW_apply _ 0 d ⟨(i 2).val, hi⟩))
      (proj_apply _ _ _ _ _).symm
  show gateLanes m c (i 0) (i 1) (i 2) = _
  unfold gateLanes
  rw [hp]
  by_cases h : (i 2).val < 16
  · rw [if_pos h]
    exact (gateArr_beta _ (m ((c : Thread nD τ).loc main_arg5)) (m ((c : Thread nD τ).loc main_arg6)) (i 0) (i 1)
      ⟨(i 2).val, h⟩).symm.trans (congrArg _ (ValueIdx.eq_ix3 i).symm)
  · rw [if_neg h]
    have hl : (i 2).val - 16 < 16 := by omega
    have e : i = ix3 (i 0) (i 1) (⟨16 + (⟨(i 2).val - 16, hl⟩ : Fin 16).val, by simp only; omega⟩ : Fin 128) :=
      (eq_ix3 i).trans (congrArg (ix3 (i 0) (i 1)) (Fin.ext (by simp only; omega)))
    refine Eq.trans ?_ ((gateArr_decay _ _ _ (i 0) (i 1) ⟨(i 2).val - 16, hl⟩).symm.trans (congrArg _ e.symm))
    have e2 : i 2 = (⟨16 + (⟨(i 2).val - 16, hl⟩ : Fin 16).val, by simp only; omega⟩ : Fin 128) := Fin.ext (by simp only; omega)
    refine congrArg₂ decay ?_ (congrArg₂ (· + ·) ?_ ?_)
    · exact (congrArg (fun l => headRow _ (ix2 (0 : Fin 1) l)) e2).trans (headRow_apply _ ⟨(i 2).val - 16, hl⟩)
    · exact congrArg (fun l => proj _ _ (ix3 (i 0) (i 1) l)) (Fin.ext (by simp only; omega))
    · exact (congrArg (fun l => headRow _ (ix2 (0 : Fin 1) l)) e2).trans (headRow_apply _ ⟨(i 2).val - 16, hl⟩)

end Cert.InProj.RefValue

/-! ## The value claim -/

namespace Cert.Proof.InProjClaims

open Cert.InProj.RefValue Cert.InProjRefIdeal.RefValue

/-- The lanes that the claim selects are the first 32. -/
theorem lane_of_set : ∀ n : Fin 128, IntOp.cmpi .slt (BitVec.ofNat 32 n.val) 32#32 = 1#1 → n.val < 32 := by
  decide +kernel

/-- A lane of the gates that the mask selects is one of the 32. -/
theorem mask_lane [Cert.On_gate_lanes.Facts] (x0 : FVec Ideal Cert.On_gate_lanes.S4x4096x2048 .f32)
    (x1 : FVec Ideal Cert.On_gate_lanes.S1x2048 .f32) (x2 x3 : FVec Ideal Cert.On_gate_lanes.S4x1x2048 .f32)
    (x4 : FVec Ideal Cert.On_gate_lanes.S2x2048x5664 .f32) (x5 x6 : FVec Ideal Cert.On_gate_lanes.S2x8 .f32)
    (i : Cert.On_gate_lanes.S4x4096x128.Idx) (h : (Cert.On_gate_lanes.fn x0 x1 x2 x3 x4 x5 x6).2 i = 1#1) : (i 2).val < 32 :=
  lane_of_set (i 2) h

/-- The reference's second result is the gates of its projection. -/
theorem gates_ri (m : (ℓ : Loc Cert.InProjRefIdeal.nD Cert.InProjRefIdeal.τ Cert.InProjRefIdeal.sig) → Buf (Elt Ideal) ℓ)
    (c : Dev Cert.InProjRefIdeal.nD) : Cert.InProjRefIdeal.Value.res_main_v47 m c
      = gateArr (proj (Cert.MlpRefIdeal.RefValue.normed (m ((c.tc : Thread _ _).loc Cert.InProjRefIdeal.main_arg0))
          (m ((c.tc : Thread _ _).loc Cert.InProjRefIdeal.main_arg1)) (m ((c.tc : Thread _ _).loc Cert.InProjRefIdeal.main_arg2))
          (m ((c.tc : Thread _ _).loc Cert.InProjRefIdeal.main_arg3))) (m ((c.tc : Thread _ _).loc Cert.InProjRefIdeal.main_arg4)))
        (m ((c.tc : Thread _ _).loc Cert.InProjRefIdeal.main_arg5)) (m ((c.tc : Thread _ _).loc Cert.InProjRefIdeal.main_arg6)) := rfl

/-- Over the extended reals the kernel's projection is the reference's everywhere, and its gates are the reference's on the 32
    lanes that hold gates, for all arguments. -/
theorem algebraic : Cert.algebraic_InProjIdeal_InProjRefIdeal_on_gate_lanes := by
  intro m g m' g' hpre hagree
  refine ⟨fun c => cols (proj (hRef m c) (m ((c.tc : Thread _ _).loc Cert.InProj.main_arg4))), fun c => gateOut m c, ?_, ?_⟩
  · refine θ_run_mono (θ_run_and (run_ki m g) (frame_ki m g hpre)) fun r h c => ?_
    have e8 := ((h.1 c).1 8).trans (final_cols m c)
    have e9 := ((h.1 c).1 9).trans (final_gates m c)
    exact ⟨fun i _ => congrFun e8 i, fun i _ => congrFun e9 i, h.2.1 c⟩
  · refine θ_run_mono (Cert.InProjRefIdeal.Value.run m' g') fun r h c => ?_
    obtain ⟨h46, h47, hargs⟩ := h c
    obtain ⟨a0, a1, a2, a3, a4, a5, a6⟩ := hagree c
    refine ⟨fun i _ => ?_, fun i hi => ?_, hargs⟩
    · rw [h46, a0, a1, a2, a3, a4]
      rfl
    · rw [h47, gates_ri, a0, a1, a2, a3, a4, a5, a6]
      exact (gateOut_eq m c i (mask_lane _ _ _ _ _ _ _ i hi)).symm

end Cert.Proof.InProjClaims

end
-- ==== Proof.KPrepValue.lean ====
/-
  The keys of a layer's attention block: RMSNorm and rotary positions of the projection's 256 key lanes. The kernel
  multiplies the weights into the angles and the row's factor last, two heads of 512 rows per grid point; the reference
  normalises, weighs, and rotates. Over the extended reals a normalised entry is always a real number, so the two agree
  everywhere, with no condition on the arguments.
-/
module

public import proofs.«01_k».proof.Defs
public import proofs.«01_k».proof.Proof.AttnBody
public import proofs.«01_k».proof.Proof.Gen.KPrep.Frame
public import proofs.«01_k».proof.Proof.Gen.KPrepIdeal.Frame
public import proofs.«01_k».proof.Proof.Gen.KPrepRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KPrepRefIdeal.RefValue

open Cert.KPrepRefIdeal Cert.KPrepRefIdeal.Gen
open Cert.Proof.AttnMath

/-- The heads of the keys: lanes 5120 to 5375 of the projection. -/
def heads (p : FVec Ideal S4x4096x5632 .bf16) : FVec Ideal S4x4096x2x128 .f32 :=
  shapeCast S4x4096x2x128 (extf .f32 (extractStridedSlice S4x4096x256 ![0, 0, 5120] p
    slices_S4x4096x5632_S4x4096x256_0_0_5120) bitsLt_bf16_f32) shapeCasts_S4x4096x256_S4x4096x2x128

/-- RMSNorm of the heads `x` with the weights `w`. -/
def normed (x : FVec Ideal S4x4096x2x128 .f32) (w : FVec Ideal S1x128 .f32) : FVec Ideal S4x4096x2x128 .f32 :=
  mulf (mulf x (broadcastInDim S4x4096x2x128 ![0, 1, 2, 3] bcast_S4x4096x2x1_S4x4096x2x128_0_1_2_3
      (Host.rsqrt (addf (Host.divf (broadcastInDim S4x4096x2x1 ![0, 1, 2] bcast_S4x4096x2_S4x4096x2x1_0_1_2
          (Host.reduceAdd (mulf x x) (constant S_ .f32 0x00000000#32) reducesTo_S4x4096x2x128_S4x4096x2_d3 h_S_))
        (broadcastInDim S4x4096x2x1 ![] bcast_S_S4x4096x2x1 (constant S_ .f32 0x43000000#32)))
        (broadcastInDim S4x4096x2x1 ![] bcast_S_S4x4096x2x1 (constant S_ .f32 0x358637BD#32))))))
    (broadcastInDim S4x4096x2x128 ![0, 1, 2, 3] bcast_S1x1x1x128_S4x4096x2x128_0_1_2_3
      (broadcastInDim S1x1x1x128 ![3] bcast_S128_S1x1x1x128_3 (shapeCast S128 w shapeCasts_S1x128_S128)))

/-- A table of angles spread over batch and heads. -/
def spread (c : FVec Ideal S4096x128 .f32) : FVec Ideal S4x4096x2x128 .f32 :=
  broadcastInDim S4x4096x2x128 ![0, 1, 2, 3] bcast_S1x4096x1x128_S4x4096x2x128_0_1_2_3
    (broadcastInDim S1x4096x1x128 ![1, 2, 3] bcast_S4096x1x128_S1x4096x1x128_1_2_3
      (broadcastInDim S4096x1x128 ![0, 2] bcast_S4096x128_S4096x1x128_0_2 c))

/-- The quarters of a row in the order second, first, fourth, third, the first and the third of them negated. -/
def turned (y : FVec Ideal S4x4096x2x128 .f32) : FVec Ideal S4x4096x2x128 .f32 :=
  concatenate S4x4096x2x128 3
    [⟨S4x4096x2x32, Host.negf (extractStridedSlice S4x4096x2x32 ![0, 0, 0, 32] y slices_S4x4096x2x128_S4x4096x2x32_0_0_0_32)⟩,
     ⟨S4x4096x2x32, extractStridedSlice S4x4096x2x32 ![0, 0, 0, 0] y slices_S4x4096x2x128_S4x4096x2x32_0_0_0_0⟩,
     ⟨S4x4096x2x32, Host.negf (extractStridedSlice S4x4096x2x32 ![0, 0, 0, 96] y slices_S4x4096x2x128_S4x4096x2x32_0_0_0_96)⟩,
     ⟨S4x4096x2x32, extractStridedSlice S4x4096x2x32 ![0, 0, 0, 64] y slices_S4x4096x2x128_S4x4096x2x32_0_0_0_64⟩]
    concatenates_S4x4096x2x32_S4x4096x2x32_S4x4096x2x32_S4x4096x2x32_S4x4096x2x128_d3

/-- The reference's result. -/
def REF (p : FVec Ideal S4x4096x5632 .bf16) (w : FVec Ideal S1x128 .f32) (c s : FVec Ideal S4096x128 .f32) :
    FVec Ideal S4x4096x256 .bf16 :=
  truncf .bf16 (shapeCast S4x4096x256 (addf (mulf (normed (heads p) w) (spread c))
    (mulf (turned (normed (heads p) w)) (spread s))) shapeCasts_S4x4096x2x128_S4x4096x256) bitsLt_bf16_f32

/-- A normalised, weighted key at an index. -/
theorem normed_apply (p : FVec Ideal S4x4096x5632 .bf16) (w : FVec Ideal S1x128 .f32) (b : Fin 4) (t : Fin 4096) (h : Fin 2)
    (l : Fin 128) : normed (heads p) w (ix4 b t h l)
      = p (ix3 b t (⟨5120 + (h * 128 + l), by omega⟩ : Fin 5632))
        * rms (fun i => p (ix3 b t (⟨5120 + (h * 128 + i), by omega⟩ : Fin 5632))) * w (ix2 (0 : Fin 1) l) := by
  pointwise [normed, heads, rms]

/-- The turned row at an index: the partner's entry with the lane's sign. -/
theorem turned_apply (y : FVec Ideal S4x4096x2x128 .f32) (b : Fin 4) (t : Fin 4096) (h : Fin 2) (l : Fin 128) :
    turned y (ix4 b t h l) = sgn l * y (ix4 b t h (prt l)) := by
  have hl := l.isLt
  pointwise [turned]
  by_cases hs : (l : ℕ) % 64 < 32
  · rw [sgn_low hs, prt_low hs, neg_one_mul]
    split
    · exact congrArg (fun i => -y (ix4 b t h i)) (Fin.ext (Nat.add_comm _ _))
    · rw [dif_neg (by omega), dif_pos (by omega)]
      exact congrArg (fun i => -y (ix4 b t h i)) (Fin.ext (by show 96 + ((l : ℕ) - 32 - 32) = l + 32; omega))
  · rw [sgn_high hs, prt_high hs, one_mul, dif_neg (by omega)]
    split
    · rfl
    · rw [dif_neg (by omega)]
      exact congrArg (fun i => y (ix4 b t h i)) (Fin.ext (by show 64 + ((l : ℕ) - 32 - 32 - 32) = l - 32; omega))

/-- The reference's result at batch `b`, position `t`, lane `n`: the rotated normalised row of the lane's head. -/
theorem ref_apply (p : FVec Ideal S4x4096x5632 .bf16) (w : FVec Ideal S1x128 .f32) (c s : FVec Ideal S4096x128 .f32)
    (b : Fin 4) (t : Fin 4096) (n : Fin 256) : REF p w c s (ix3 b t n)
      = qrow (fun i => p (ix3 b t (⟨5120 + ((n : ℕ) / 128 * 128 + i), by omega⟩ : Fin 5632))) (fun i => w (ix2 (0 : Fin 1) i))
          (fun i => c (ix2 t i)) (fun i => s (ix2 t i)) ⟨(n : ℕ) % 128, Nat.mod_lt _ (by norm_num)⟩ := by
  pointwise [REF, spread]
  simp only [turned_apply, normed_apply, qrow]

end Cert.KPrepRefIdeal.RefValue

namespace Cert.KPrepIdeal.RefValue

open Cert.KPrepIdeal Cert.KPrepIdeal.Gen
open Cert.Proof.AttnMath
open Cert.KPrepRefIdeal.RefValue (REF ref_apply)
open Cert.AttnIdeal.RefValue (mask mask_eq mul_perm)

variable (m : (ℓ : Loc nD τ sig) → Buf (Elt Ideal) ℓ) (ρ : Dev nD → PrngReg)

/-- The pairing matrix of the keys is that of the queries. -/
theorem perm_eq : k0_pay3 (F := Ideal) = Cert.AttnIdeal.Gen.k0_pay2 := rfl

/-- The cosine table with the weight. -/
theorem wc_apply (w : Vec Ideal S1x128 .f32) (c : Vec Ideal S512x128 .f32) (r : Fin 512) (l : Fin 128) :
    k0_pay4 (F := Ideal) w c (ix2 r l) = w (ix2 (0 : Fin 1) l) * ((1 : ℝ) : EReal) * c (ix2 r l) := by
  pointwise [k0_pay4]
  norm_num

/-- The sine table with the partner's weight. -/
theorem ws_apply (w : Vec Ideal S1x128 .f32) (c : Vec Ideal S512x128 .f32) (r : Fin 512) (l : Fin 128) :
    k0_pay5 (F := Ideal) w c (iota .tc S1x128 32 [1] iota_S1x128_d1_w32) (ix2 r l)
      = w (ix2 (0 : Fin 1) (prt l)) * ((1 : ℝ) : EReal) * c (ix2 r l) := by
  rw [EReal.coe_one, mul_one]
  pointwise [k0_pay5]
  refine congrArg (· * c (ix2 r l)) ?_
  show Scalar.select (mask l) _ _ = _
  rw [mask_eq]
  by_cases h : (l : ℕ) % 64 < 32
  · rw [if_pos h, prt_low h]
    exact congrArg (fun i => w (ix2 (0 : Fin 1) i)) (Fin.ext (by show ((l : ℕ) + 128 - 96) % 128 = l + 32; omega))
  · rw [if_neg h, prt_high h]
    exact congrArg (fun i => w (ix2 (0 : Fin 1) i)) (Fin.ext (by show ((l : ℕ) + 128 - 32) % 128 = l - 32; omega))

/-- One head's keys in the body are the rotated normalised keys. -/
theorem head_apply (w : Vec Ideal S1x128 .f32) (c s : Vec Ideal S512x128 .f32) (x : Vec Ideal S1x512x128 .bf16)
    (r : Fin 512) (l : Fin 128) :
    k0_pay2 (F := Ideal) k0_pay3 (k0_pay4 w c) (k0_pay5 w s (iota .tc S1x128 32 [1] iota_S1x128_d1_w32)) x (ix3 (0 : Fin 1) r l)
      = qrow (fun i => x (ix3 (0 : Fin 1) r i)) (fun i => w (ix2 (0 : Fin 1) i)) (fun i => c (ix2 r i)) (fun i => s (ix2 r i)) l := by
  refine Eq.trans ?_ ((qrowScaled_eq zero_le_one _ _ _ _ l).trans (by rw [EReal.coe_one, one_mul]))
  pointwise [k0_pay2, qrowScaled, rms]
  rw [wc_apply, ws_apply, perm_eq]
  rw [mul_perm (fun i => x (ix3 (0 : Fin 1) r i)) l]

/-- The block indices of the windows at point `t`: batch `t / 8`, row tile `t % 8`; the keys' lanes are the eleventh block. -/
theorem idx : ∀ t : Fin cfg0.N,
    win0_0.index t = ![t.val / 8, t.val % 8, 10] ∧ win0_1.index t = ![0, 0] ∧ win0_2.index t = ![t.val % 8, 0]
    ∧ win0_3.index t = ![t.val % 8, 0] ∧ win0_4.index t = ![t.val / 8, t.val % 8, 0] ∧ t.val / 8 < 4 :=
  (by decide +kernel : ∀ t : Fin grid0.N, _)

/-- The batch of point `t`. -/
def batch (t : Fin cfg0.N) : Fin 4 := ⟨t.val / 8, (idx t).2.2.2.2.2⟩
/-- The array row of local row `r` at point `t`. -/
def row (t : Fin cfg0.N) (r : Fin 512) : Fin 4096 := ⟨t.val % 8 * 512 + r.val, by have := r.isLt; omega⟩

/-- One head's keys at point `t`, whose lanes `x` lie in the block from lane `128 h` on, are the reference's. -/
theorem head_point (c : Dev nD) (t : Fin cfg0.N) (w : Vec Ideal S1x128 .f32) (co si : Vec Ideal S512x128 .f32)
    (x : Vec Ideal S1x512x128 .bf16) (h : Fin 2) (r : Fin 512) (l : Fin 128) (n : Fin 256)
    (hx : ∀ i : Fin 128, x (ix3 (0 : Fin 1) r i) = iblk m c 0 t (ix3 (0 : Fin 1) r (⟨h * 128 + i, by omega⟩ : Fin 512)))
    (hw : ∀ i : Fin 128, w (ix2 (0 : Fin 1) i) = iblk m c 1 t (ix2 (0 : Fin 1) i))
    (hc : ∀ i : Fin 128, co (ix2 r i) = iblk m c 2 t (ix2 r i)) (hs : ∀ i : Fin 128, si (ix2 r i) = iblk m c 3 t (ix2 r i))
    (hn : (n : ℕ) = h * 128 + l) :
    k0_pay2 (F := Ideal) k0_pay3 (k0_pay4 w co) (k0_pay5 w si (iota .tc S1x128 32 [1] iota_S1x128_d1_w32)) x (ix3 (0 : Fin 1) r l)
      = REF (m ((c : Thread nD τ).loc main_arg0)) (m ((c : Thread nD τ).loc main_arg1)) (m ((c : Thread nD τ).loc main_arg2))
          (m ((c : Thread nD τ).loc main_arg3)) (ix3 (batch t) (row t r) n) := by
  have e0 : ∀ i : Fin 128, iblk m c 0 t (ix3 (0 : Fin 1) r (⟨h * 128 + i, by omega⟩ : Fin 512))
      = m ((c : Thread nD τ).loc main_arg0)
        (ix3 (batch t) (row t r) (⟨5120 + ((n : ℕ) / 128 * 128 + i), by omega⟩ : Fin 5632)) := by
    intro i; unfold batch row; blk_point [iblk, V, idx t]
  have e1 : ∀ i : Fin 128, iblk m c 1 t (ix2 (0 : Fin 1) i) = m ((c : Thread nD τ).loc main_arg1) (ix2 (0 : Fin 1) i) := by
    intro i; blk_point [iblk, V, idx t]
  have e2 : ∀ i : Fin 128, iblk m c 2 t (ix2 r i) = m ((c : Thread nD τ).loc main_arg2) (ix2 (row t r) i) := by
    intro i; unfold row; blk_point [iblk, V, idx t]
  have e3 : ∀ i : Fin 128, iblk m c 3 t (ix2 r i) = m ((c : Thread nD τ).loc main_arg3) (ix2 (row t r) i) := by
    intro i; unfold row; blk_point [iblk, V, idx t]
  refine (head_apply w co si x r l).trans (Eq.trans ?_ (ref_apply _ _ _ _ (batch t) (row t r) _).symm)
  simp only [hx, hw, hc, hs, e0, e1, e2, e3]
  exact congrArg _ (Fin.ext (by show (l : ℕ) = (n : ℕ) % 128; omega))

/-- The same at any index `j` of the head's block. -/
theorem head_at (c : Dev nD) (t : Fin cfg0.N) (w : Vec Ideal S1x128 .f32) (co si : Vec Ideal S512x128 .f32)
    (x : Vec Ideal S1x512x128 .bf16) (h : Fin 2) (j : S1x512x128.Idx) (r : Fin 512) (n : Fin 256)
    (hx : ∀ (r : Fin 512) (i : Fin 128),
      x (ix3 (0 : Fin 1) r i) = iblk m c 0 t (ix3 (0 : Fin 1) r (⟨h * 128 + i, by omega⟩ : Fin 512)))
    (hw : ∀ i : Fin 128, w (ix2 (0 : Fin 1) i) = iblk m c 1 t (ix2 (0 : Fin 1) i))
    (hc : ∀ (r : Fin 512) (i : Fin 128), co (ix2 r i) = iblk m c 2 t (ix2 r i))
    (hs : ∀ (r : Fin 512) (i : Fin 128), si (ix2 r i) = iblk m c 3 t (ix2 r i))
    (hr : (r : ℕ) = (j 1).val) (hn : (n : ℕ) = h * 128 + (j 2).val) :
    k0_pay2 (F := Ideal) k0_pay3 (k0_pay4 w co) (k0_pay5 w si (iota .tc S1x128 32 [1] iota_S1x128_d1_w32)) x j
      = REF (m ((c : Thread nD τ).loc main_arg0)) (m ((c : Thread nD τ).loc main_arg1)) (m ((c : Thread nD τ).loc main_arg2))
          (m ((c : Thread nD τ).loc main_arg3)) (ix3 (batch t) (row t r) n) := by
  have e : j = ix3 (0 : Fin 1) r (j 2) := by
    refine (ValueIdx.eq_ix3 j).trans ?_
    rw [show (j 0) = (0 : Fin 1) from Subsingleton.elim (α := Fin 1) _ _, show (j 1) = r from (Fin.ext hr).symm]
    rfl
  rw [e]
  exact head_point m c t w co si x h r (j 2) n (hx r) hw (hc r) (hs r) hn

/-- The first head's keys are computed as the second's are. -/
theorem first_eq (w : Vec Ideal S1x128 .f32) (c : Vec Ideal S512x128 .f32) (p : FVec Ideal S512x128 .f32)
    (x : Vec Ideal S1x512x128 .bf16) :
    k0_pay1 (F := Ideal) p (k0_pay8 x) (k0_pay9 w c x) (k0_pay10 k0_pay3 x) = k0_pay2 k0_pay3 (k0_pay4 w c) p x := rfl

/-- What the body leaves in its block at point `t` is the reference's value where each entry sits in the array. -/
theorem point (c : Dev nD) (t : Fin cfg0.N) (y : S1x512x256.Idx) :
    out0_4 (iblk m c 0 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (ix3 (batch t) (row t (y 1)) (y 2)) := by
  unfold_out out0_4
  canon_tiles x h
  case piece0 =>
    refine head_at m c t _ _ _ _ 1 x (y 1) (y 2) ?_ ?_ ?_ ?_ h1 h2
    all_goals (intros; pointwise; blk_ext)
  case piece1 =>
    refine (congrFun (first_eq _ _ _ _) x).trans (head_at m c t _ _ _ _ 0 x (y 1) (y 2) ?_ ?_ ?_ ?_ h1 (h2.trans ?_))
    all_goals first | (intros; pointwise; blk_ext) | simp

/-- The result array after the run is the reference's function of the arguments. -/
theorem final (c : Dev nD) : (dats m 0 c).arrAt 4 (cfgs 0).N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]
  refine (point m c t y).trans ?_
  unfold batch row; blk_ext [idx t]

end Cert.KPrepIdeal.RefValue

/-! ## The claims about the keys -/

namespace Cert.Proof.KPrepClaims

/-- The kernel as written runs, leaves its arguments, and ends quiescent. -/
theorem frame_k : Cert.quiescent_KPrep := fun m g _ => Cert.KPrep.Gen.frame m g
/-- So does the kernel read over the extended reals, -/
theorem frame_ki : Cert.quiescent_KPrepIdeal := fun m g _ => Cert.KPrepIdeal.Gen.frame m g
/-- and the reference read over the extended reals, which has no semaphore. -/
theorem frame_ri : Cert.quiescent_KPrepRefIdeal := fun m g _ =>
  (θ_run Cert.KPrepRefIdeal.defs _ _).mono (fun r h => ⟨fun c => (h c).2, sem_eq_zero_of_no_sems (by decide) r.2⟩)
    (Cert.KPrepRefIdeal.Value.run (F := Ideal) m g)

/-- The exact reading of the kernel replaces nothing in it. -/
theorem preserves : Cert.preserves_KPrep_KPrepIdeal := trivial

/-- Over the extended reals the kernel's result is the reference's, element by element, for all arguments. -/
theorem algebraic : Cert.algebraic_KPrepIdeal_KPrepRefIdeal := by
  pair_intro
  · run_from Cert.KPrepIdeal.Gen.run_main m g
  · run_from Cert.KPrepRefIdeal.Value.run m' g'
    obtain ⟨a0, a1, a2, a3⟩ := hagree c
    refine Eq.trans ?_ (Cert.KPrepIdeal.RefValue.final m c).symm
    rw [← a0, ← a1, ← a2, ← a3]
    rfl

end Cert.Proof.KPrepClaims

end
-- ==== Proof.OutProjValue.lean ====
/-
  The output projection `x + g ∘ ([ya | yb] · W)`. The kernel multiplies the two halves of the concatenation by the two
  halves of the weight's rows and adds the two products, one row tile of 512 per grid point; the reference contracts the
  concatenation itself. Over the extended reals a sum over 2048 positions is the sum of its two halves, so the two agree
  everywhere, with no condition on the arguments.
-/
module

public import proofs.«01_k».proof.Defs
public import proofs.«01_k».proof.Proof.Gen.OutProj.Frame
public import proofs.«01_k».proof.Proof.Gen.OutProjIdeal.Frame
public import proofs.«01_k».proof.Proof.Gen.OutProjRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen

/-- The reference's result as one function of the five arguments: `x + g ∘ (concat(ya, yb) · W₀)`. -/
abbrev REF (ya yb : FVec Ideal S4x4096x1024 .bf16) (w : FVec Ideal S2x2048x2048 .bf16) (x : FVec Ideal S4x4096x2048 .f32)
    (g : FVec Ideal S4x1x2048 .f32) : FVec Ideal S4x4096x2048 .f32 :=
  addf x (mulf (broadcastInDim S4x4096x2048 ![0, 1, 2] Cert.OutProjRefIdeal.Gen.bcast_S4x1x2048_S4x4096x2048_0_1_2 g)
    (Host.dotGeneral Cert.OutProjRefIdeal.dot_S4x4096x2048_S2048x2048_S4x4096x2048_2_0_01_1_n_n none
      (extf .f32 (concatenate S4x4096x2048 2 [⟨S4x4096x1024, ya⟩, ⟨S4x4096x1024, yb⟩]
        Cert.OutProjRefIdeal.Gen.concatenates_S4x4096x1024_S4x4096x1024_S4x4096x2048_d2) Cert.OutProjRefIdeal.Gen.bitsLt_bf16_f32)
      (extf .f32 (shapeCast Cert.OutProjRefIdeal.S2048x2048 (extractStridedSlice Cert.OutProjRefIdeal.S1x2048x2048 ![0, 0, 0] w
        Cert.OutProjRefIdeal.Gen.slices_S2x2048x2048_S1x2048x2048_0_0_0) Cert.OutProjRefIdeal.Gen.shapeCasts_S1x2048x2048_S2048x2048)
        Cert.OutProjRefIdeal.Gen.bitsLt_bf16_f32)))

variable (m : (ℓ : Loc nD τ sig) → Buf (Elt Ideal) ℓ) (ρ : Dev nD → PrngReg)

/-- The block indices of the windows at point `t`: batch `t / 8`, row tile `t % 8`; the weight's two halves stay put. -/
theorem idx : ∀ t : Fin cfg0.N,
    win0_0.index t = ![t.val / 8, t.val % 8, 0] ∧ win0_1.index t = ![t.val / 8, t.val % 8, 0]
    ∧ win0_2.index t = ![0, 0, 0] ∧ win0_3.index t = ![0, 1, 0]
    ∧ win0_4.index t = ![t.val / 8, t.val % 8, 0] ∧ win0_5.index t = ![t.val / 8, 0, 0]
    ∧ win0_6.index t = ![t.val / 8, t.val % 8, 0] :=
  (by decide +kernel : ∀ t : Fin grid0.N, _)

/-- What the body stores at index `y` of its block at point `t` is the reference's value where `y` sits in the array. -/
theorem point (c : Dev nD) (t : Fin cfg0.N) (y) :
    k0_pay1 (iblk m c 0 t) (iblk m c 2 t) (iblk m c 1 t) (iblk m c 3 t) (iblk m c 4 t) (iblk m c 5 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay1, REF, dot_S512x1024_S1024x2048_S512x2048_1_0_0_1_n_n,
    Cert.OutProjRefIdeal.dot_S4x4096x2048_S2048x2048_S4x4096x2048_2_0_01_1_n_n]
  blk_point [iblk, V, idx t]

/-- The result array after the run is the reference's function of the arguments. -/
theorem final (c : Dev nD) : (dats m 0 c).arrAt 6 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  blk_simp
  rw [after0_6]; frame_out
  exact point m c t y

end Cert.OutProjIdeal.RefValue

/-! ## The claims about the output projection -/

namespace Cert.Proof.OutProjClaims

/-- The kernel as written runs, leaves its arguments, and ends quiescent. -/
theorem frame_k : Cert.quiescent_OutProj := fun m g _ => Cert.OutProj.Gen.frame m g
/-- So does the kernel read over the extended reals, -/
theorem frame_ki : Cert.quiescent_OutProjIdeal := fun m g _ => Cert.OutProjIdeal.Gen.frame m g
/-- and the reference read over the extended reals, which has no semaphore. -/
theorem frame_ri : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run (F := Ideal) m g)

/-- The exact reading of the kernel replaces nothing in it. -/
theorem preserves : Cert.preserves_OutProj_OutProjIdeal := trivial

/-- Over the extended reals the kernel's result is the reference's, element by element, for all arguments. -/
theorem algebraic : Cert.algebraic_OutProjIdeal_OutProjRefIdeal := by
  pair_intro
  · run_from Cert.OutProjIdeal.Gen.run_main m g
  · run_from Cert.OutProjRefIdeal.Value.run m' g'
    exact (Cert.OutProjIdeal.RefValue.final m c).symm

end Cert.Proof.OutProjClaims

end
-- ==== Proof.lean ====
/-
  `Cert.Claim`: the frames, the readings of the rounded constants and the value claims of the calls, each proved in the
  module of its call.
-/
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.Mlp
public import proofs.«01_k».proof.Proof.Gen.MlpIdeal
public import proofs.«01_k».proof.Proof.Gen.MlpRefIdeal
public import proofs.«01_k».proof.Proof.Gen.OutProj
public import proofs.«01_k».proof.Proof.Gen.OutProjIdeal
public import proofs.«01_k».proof.Proof.Gen.OutProjRefIdeal
public import proofs.«01_k».proof.Proof.Gen.InProj
public import proofs.«01_k».proof.Proof.Gen.InProjIdeal
public import proofs.«01_k».proof.Proof.Gen.InProjRefIdeal
public import proofs.«01_k».proof.Proof.Gen.On_gate_lanes
public import proofs.«01_k».proof.Proof.Gen.KPrep
public import proofs.«01_k».proof.Proof.Gen.KPrepIdeal
public import proofs.«01_k».proof.Proof.Gen.KPrepRefIdeal
public import proofs.«01_k».proof.Proof.Gen.AdaLn
public import proofs.«01_k».proof.Proof.Gen.AdaLnIdeal
public import proofs.«01_k».proof.Proof.Gen.AdaLnRefIdeal
public import proofs.«01_k».proof.Proof.AdaLnValue
public import proofs.«01_k».proof.Proof.AttnValue
public import proofs.«01_k».proof.Proof.InProjFrame
public import proofs.«01_k».proof.Proof.InProjValue
public import proofs.«01_k».proof.Proof.KPrepValue
public import proofs.«01_k».proof.Proof.MlpValue
public import proofs.«01_k».proof.Proof.OutProjValue

@[expose] public section

noncomputable section

namespace Cert.Proof

open Idealize.ShloMosaic Idealize.SL.Sem

/-- The whole claim: for each call the frames, then for each call what the exact reading replaces and the value claim. -/
theorem claim : Cert.Claim :=
  ⟨Cert.Attn.Gen.facts, Cert.AttnIdeal.Gen.facts, Cert.AttnRefIdeal.Gen.facts, Cert.Mlp.Gen.facts, Cert.MlpIdeal.Gen.facts,
    Cert.MlpRefIdeal.Gen.facts, Cert.OutProj.Gen.facts, Cert.OutProjIdeal.Gen.facts, Cert.OutProjRefIdeal.Gen.facts,
    Cert.InProj.Gen.facts, Cert.InProjIdeal.Gen.facts, Cert.InProjRefIdeal.Gen.facts,
    Cert.KPrep.Gen.facts, Cert.KPrepIdeal.Gen.facts, Cert.KPrepRefIdeal.Gen.facts,
    Cert.AdaLn.Gen.facts, Cert.AdaLnIdeal.Gen.facts, Cert.AdaLnRefIdeal.Gen.facts,
    Cert.AttnIdeal.RefValue.preFacts, Cert.On_gate_lanes.Gen.facts,
    AttnClaims.frame_k, AttnClaims.frame_ki, AttnClaims.frame_ki_pre, AttnClaims.frame_ri, AttnClaims.frame_ri_pre,
    MlpClaims.frame_k, MlpClaims.frame_ki, MlpClaims.frame_ri,
    OutProjClaims.frame_k, OutProjClaims.frame_ki, OutProjClaims.frame_ri,
    InProjClaims.frame_k, InProjClaims.frame_ki, InProjClaims.frame_ri,
    KPrepClaims.frame_k, KPrepClaims.frame_ki, KPrepClaims.frame_ri,
    AdaLnClaims.frame_k, AdaLnClaims.frame_ki, AdaLnClaims.frame_ri,
    AttnClaims.preserves, AttnClaims.algebraic,
    MlpClaims.preserves, MlpClaims.algebraic,
    OutProjClaims.preserves, OutProjClaims.algebraic,
    InProjClaims.preserves, InProjClaims.algebraic,
    KPrepClaims.preserves, KPrepClaims.algebraic,
    AdaLnClaims.preserves, AdaLnClaims.algebraic⟩

end Cert.Proof

end
